-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_symbols_and_tables [hPre_symbols_and_tables : Cert.Pre_symbols_and_tables.Facts] (m : (ℓ : Loc Cert.KernelIdeal.nD Cert.KernelIdeal.τ Cert.KernelIdeal.sig) → Buf (Elt Ideal) ℓ) : Prop :=
  ∀ c : Dev Cert.KernelIdeal.nD,
    (Cert.Pre_symbols_and_tables.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_symbols_and_tables [hPre_symbols_and_tables : Cert.Pre_symbols_and_tables.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_symbols_and_tables.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_symbols_and_tables [hKernelIdeal : Cert.KernelIdeal.Facts] [hPre_symbols_and_tables : Cert.Pre_symbols_and_tables.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_symbols_and_tables m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_symbols_and_tables [hReferenceIdeal : Cert.ReferenceIdeal.Facts] [hPre_symbols_and_tables : Cert.Pre_symbols_and_tables.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_symbols_and_tables m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_symbols_and_tables [hKernelIdeal : Cert.KernelIdeal.Facts] [hReferenceIdeal : Cert.ReferenceIdeal.Facts] [hPre_symbols_and_tables : Cert.Pre_symbols_and_tables.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_symbols_and_tables m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_symbols_and_tables : Cert.Pre_symbols_and_tables.Facts),
    quiescent_Kernel (hKernel := hKernel)
    ∧ quiescent_KernelIdeal (hKernelIdeal := hKernelIdeal)
    ∧ quiescent_KernelIdeal_pre_symbols_and_tables (hKernelIdeal := hKernelIdeal) (hPre_symbols_and_tables := hPre_symbols_and_tables)
    ∧ quiescent_ReferenceIdeal (hReferenceIdeal := hReferenceIdeal)
    ∧ quiescent_ReferenceIdeal_pre_symbols_and_tables (hReferenceIdeal := hReferenceIdeal) (hPre_symbols_and_tables := hPre_symbols_and_tables)
    ∧ preserves_Kernel_KernelIdeal
    ∧ algebraic_KernelIdeal_ReferenceIdeal_pre_symbols_and_tables (hKernelIdeal := hKernelIdeal) (hReferenceIdeal := hReferenceIdeal) (hPre_symbols_and_tables := hPre_symbols_and_tables)
-- ==== Pre_symbols_and_tables.lean ====
abbrev S10000 : Shape := ⟨1, ![10000]⟩
abbrev S2x320000 : Shape := ⟨2, ![2, 320000]⟩
abbrev S64x16 : Shape := ⟨2, ![64, 16]⟩
abbrev S64x16x256 : Shape := ⟨3, ![64, 16, 256]⟩
abbrev S2016x128 : Shape := ⟨2, ![2016, 128]⟩
abbrev S128 : Shape := ⟨1, ![128]⟩
abbrev S128x1 : Shape := ⟨2, ![128, 1]⟩
abbrev S1 : Shape := ⟨1, ![1]⟩
abbrev S64x2016 : Shape := ⟨2, ![64, 2016]⟩
abbrev S_ : Shape := ⟨0, ![]⟩

class Facts : Prop where
  bcast_S_S10000 : S_.BroadcastsInDim S10000 (![] : Fin 0 → Fin S10000.rank)
  reducesTo_S10000_S_d0 : S10000.ReducesTo [0] S_
  h_S_ : 0 < S_.numel
  bcast_S_S64x16x256 : S_.BroadcastsInDim S64x16x256 (![] : Fin 0 → Fin S64x16x256.rank)
  reducesTo_S64x16x256_S_d0_1_2 : S64x16x256.ReducesTo [0, 1, 2] S_
  bcast_S_S2016x128 : S_.BroadcastsInDim S2016x128 (![] : Fin 0 → Fin S2016x128.rank)
  reducesTo_S2016x128_S_d0_1 : S2016x128.ReducesTo [0, 1] S_

variable [Facts]

def fn {F : FTy → Type} [FloatOps F] (main_arg0 : IVec S10000 32) (main_arg1 : IVec S2x320000 32) (main_arg2 : IVec S10000 32) (main_arg3 : FVec F S64x16 .f32) (main_arg4 : FVec F S64x16x256 .f32) (main_arg5 : FVec F S2016x128 .f32) (main_arg6 : FVec F S128 .f32) (main_arg7 : FVec F S128x1 .f32) (main_arg8 : FVec F S1 .f32) (main_arg9 : FVec F S2016x128 .f32) (main_arg10 : FVec F S128 .f32) (main_arg11 : FVec F S64x2016 .f32) : IVec S_ 1 :=
  let main_c : IVec S_ 32 := constantI S_ 32 0#32
  let main_v0 : IVec S10000 32 := broadcastInDim S10000 ![] bcast_S_S10000 main_c
  let main_v1 : IVec S10000 1 := cmpi .sge main_arg0 main_v0
  let main_c_0 : IVec S_ 32 := constantI S_ 32 256#32
  let main_v2 : IVec S10000 32 := broadcastInDim S10000 ![] bcast_S_S10000 main_c_0
  let main_v3 : IVec S10000 1 := cmpi .slt main_arg0 main_v2
  let main_v4 : IVec S10000 1 := andi main_v1 main_v3
  let main_c_1 : IVec S_ 1 := constantI S_ 1 1#1
  let main_v5 : IVec S_ 1 := (fun x v => Host.reduce IntOp.andi x v reducesTo_S10000_S_d0 h_S_) main_v4 main_c_1
  let main_v6 : FVec F S64x16x256 .f32 := Host.absf main_arg4
  let main_cst : FVec F S_ .f32 := constant S_ .f32 0x7F800000#32
  let main_v7 : FVec F S64x16x256 .f32 := broadcastInDim S64x16x256 ![] bcast_S_S64x16x256 main_cst
  let main_v8 : IVec S64x16x256 1 := cmpf .olt main_v6 main_v7
  let main_c_2 : IVec S_ 1 := constantI S_ 1 1#1
  let main_v9 : IVec S_ 1 := (fun x v => Host.reduce IntOp.andi x v reducesTo_S64x16x256_S_d0_1_2 h_S_) main_v8 main_c_2
  let main_v10 : IVec S_ 1 := andi main_v5 main_v9
  let main_v11 : FVec F S2016x128 .f32 := Host.absf main_arg9
  let main_cst_3 : FVec F S_ .f32 := constant S_ .f32 0x7F800000#32
  let main_v12 : FVec F S2016x128 .f32 := broadcastInDim S2016x128 ![] bcast_S_S2016x128 main_cst_3
  let main_v13 : IVec S2016x128 1 := cmpf .olt main_v11 main_v12
  let main_c_4 : IVec S_ 1 := constantI S_ 1 1#1
  let main_v14 : IVec S_ 1 := (fun x v => Host.reduce IntOp.andi x v reducesTo_S2016x128_S_d0_1 h_S_) main_v13 main_c_4
  let main_v15 : IVec S_ 1 := andi main_v10 main_v14
  main_v15
-- ==== Kernel.lean ====
abbrev S10000 : Shape := ⟨1, ![10000]⟩
abbrev S2x320000 : Shape := ⟨2, ![2, 320000]⟩
abbrev S64x16 : Shape := ⟨2, ![64, 16]⟩
abbrev S64x16x256 : Shape := ⟨3, ![64, 16, 256]⟩
abbrev S2016x128 : Shape := ⟨2, ![2016, 128]⟩
abbrev S128 : Shape := ⟨1, ![128]⟩
abbrev S128x1 : Shape := ⟨2, ![128, 1]⟩
abbrev S1 : Shape := ⟨1, ![1]⟩
abbrev S64x2016 : Shape := ⟨2, ![64, 2016]⟩
abbrev S1x1x10000 : Shape := ⟨3, ![1, 1, 10000]⟩
abbrev S1x1 : Shape := ⟨2, ![1, 1]⟩
abbrev S1x128 : Shape := ⟨2, ![1, 128]⟩
abbrev S64x128 : Shape := ⟨2, ![64, 128]⟩
abbrev S64 : Shape := ⟨1, ![64]⟩
abbrev S64x1 : Shape := ⟨2, ![64, 1]⟩
abbrev S64x16x1 : Shape := ⟨3, ![64, 16, 1]⟩
abbrev S64x256 : Shape := ⟨2, ![64, 256]⟩
abbrev S2016x64 : Shape := ⟨2, ![2016, 64]⟩
abbrev S2016x256 : Shape := ⟨2, ![2016, 256]⟩
abbrev S128x2016 : Shape := ⟨2, ![128, 2016]⟩
abbrev S128x256 : Shape := ⟨2, ![128, 256]⟩
abbrev S256 : Shape := ⟨1, ![256]⟩
abbrev S1x256 : Shape := ⟨2, ![1, 256]⟩
abbrev S1x10000 : Shape := ⟨2, ![1, 10000]⟩
abbrev S256x10000 : Shape := ⟨2, ![256, 10000]⟩
abbrev S64x10000 : Shape := ⟨2, ![64, 10000]⟩

abbrev nBuf : Space → Nat
  | .hbm => 18
  | .vmem => 12
  | .smem => 0
  | _ => 0

abbrev bufTy : (tb : Table) → Fin (tcTables nBuf tb) → BufTy
  | .hbm, ⟨0, _⟩ => ⟨S10000, .i32⟩
  | .hbm, ⟨1, _⟩ => ⟨S2x320000, .i32⟩
  | .hbm, ⟨2, _⟩ => ⟨S10000, .i32⟩
  | .hbm, ⟨3, _⟩ => ⟨S64x16, .f32⟩
  | .hbm, ⟨4, _⟩ => ⟨S64x16x256, .f32⟩
  | .hbm, ⟨5, _⟩ => ⟨S2016x128, .f32⟩
  | .hbm, ⟨6, _⟩ => ⟨S128, .f32⟩
  | .hbm, ⟨7, _⟩ => ⟨S128x1, .f32⟩
  | .hbm, ⟨8, _⟩ => ⟨S1, .f32⟩
  | .hbm, ⟨9, _⟩ => ⟨S2016x128, .f32⟩
  | .hbm, ⟨10, _⟩ => ⟨S128, .f32⟩
  | .hbm, ⟨11, _⟩ => ⟨S64x2016, .f32⟩
  | .hbm, ⟨12, _⟩ => ⟨S1x1x10000, .i32⟩
  | .hbm, ⟨13, _⟩ => ⟨S1x1x10000, .i32⟩
  | .hbm, ⟨14, _⟩ => ⟨S128x1, .f32⟩
  | .hbm, ⟨15, _⟩ => ⟨S1x1, .f32⟩
  | .hbm, ⟨16, _⟩ => ⟨S1x128, .f32⟩
  | .hbm, ⟨17, _⟩ => ⟨S64x128, .f32⟩
  | .local _ .vmem, ⟨0, _⟩ => ⟨S1x1x10000, .i32⟩
  | .local _ .vmem, ⟨1, _⟩ => ⟨S1x1x10000, .i32⟩
  | .local _ .vmem, ⟨2, _⟩ => ⟨S64x16, .f32⟩
  | .local _ .vmem, ⟨3, _⟩ => ⟨S64x16x256, .f32⟩
  | .local _ .vmem, ⟨4, _⟩ => ⟨S64x2016, .f32⟩
  | .local _ .vmem, ⟨5, _⟩ => ⟨S2016x128, .f32⟩
  | .local _ .vmem, ⟨6, _⟩ => ⟨S128x1, .f32⟩
  | .local _ .vmem, ⟨7, _⟩ => ⟨S128x1, .f32⟩
  | .local _ .vmem, ⟨8, _⟩ => ⟨S1x1, .f32⟩
  | .local _ .vmem, ⟨9, _⟩ => ⟨S2016x128, .f32⟩
  | .local _ .vmem, ⟨10, _⟩ => ⟨S1x128, .f32⟩
  | .local _ .vmem, ⟨11, _⟩ => ⟨S64x128, .f32⟩
  | _, _ => ⟨S10000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x1x10000 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1x10000 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x16x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x2016 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2016x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2016x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== KernelIdeal.lean ====
variable {F : FTy → Type} [FloatOps F] [Named F]
def κ : String → Option EReal := fun
  | "mask" => some ⊥
  | _ => none
-- ==== ReferenceIdeal.lean ====
abbrev S10000 : Shape := ⟨1, ![10000]⟩
abbrev S2x320000 : Shape := ⟨2, ![2, 320000]⟩
abbrev S64x16 : Shape := ⟨2, ![64, 16]⟩
abbrev S64x16x256 : Shape := ⟨3, ![64, 16, 256]⟩
abbrev S2016x128 : Shape := ⟨2, ![2016, 128]⟩
abbrev S128 : Shape := ⟨1, ![128]⟩
abbrev S128x1 : Shape := ⟨2, ![128, 1]⟩
abbrev S1 : Shape := ⟨1, ![1]⟩
abbrev S64x2016 : Shape := ⟨2, ![64, 2016]⟩
abbrev S_ : Shape := ⟨0, ![]⟩
abbrev S64 : Shape := ⟨1, ![64]⟩
abbrev S64x1 : Shape := ⟨2, ![64, 1]⟩
abbrev S64x16x1 : Shape := ⟨3, ![64, 16, 1]⟩
abbrev S10000x1 : Shape := ⟨2, ![10000, 1]⟩
abbrev S64x16x10000 : Shape := ⟨3, ![64, 16, 10000]⟩
abbrev S64x10000 : Shape := ⟨2, ![64, 10000]⟩
abbrev S64x1x10000 : Shape := ⟨3, ![64, 1, 10000]⟩
abbrev S10000x64 : Shape := ⟨2, ![10000, 64]⟩
abbrev S10000x1x64 : Shape := ⟨3, ![10000, 1, 64]⟩
abbrev S10000x1x2016 : Shape := ⟨3, ![10000, 1, 2016]⟩
abbrev S10000x2016 : Shape := ⟨2, ![10000, 2016]⟩
abbrev S10000x128 : Shape := ⟨2, ![10000, 128]⟩
abbrev S1x128 : Shape := ⟨2, ![1, 128]⟩
abbrev S1x1 : Shape := ⟨2, ![1, 1]⟩
abbrev S1x10000 : Shape := ⟨2, ![1, 10000]⟩
abbrev S64x128 : Shape := ⟨2, ![64, 128]⟩

abbrev nBuf : Space → Nat
  | .hbm => 132
  | .vmem => 0
  | .smem => 0
  | _ => 0

abbrev hbmTy0_0 (i : Nat) : BufTy := match i % 128 with
  | 0 => ⟨S10000, .i32⟩
  | 1 => ⟨S2x320000, .i32⟩
  | 2 => ⟨S10000, .i32⟩
  | 3 => ⟨S64x16, .f32⟩
  | 4 => ⟨S64x16x256, .f32⟩
  | 5 => ⟨S2016x128, .f32⟩
  | 6 => ⟨S128, .f32⟩
  | 7 => ⟨S128x1, .f32⟩
  | 8 => ⟨S1, .f32⟩
  | 9 => ⟨S2016x128, .f32⟩
  | 10 => ⟨S128, .f32⟩
  | 11 => ⟨S64x2016, .f32⟩
  | 12 => ⟨S_, .f32⟩
  | 13 => ⟨S64, .f32⟩
  | 14 => ⟨S_, .f32⟩
  | 15 => ⟨S64, .f32⟩
  | 16 => ⟨S64, .f32⟩
  | 17 => ⟨S64x1, .f32⟩
  | 18 => ⟨S64x16, .f32⟩
  | 19 => ⟨S64x16, .f32⟩
  | 20 => ⟨S64x16, .f32⟩
  | 21 => ⟨S_, .f32⟩
  | 22 => ⟨S64, .f32⟩
  | 23 => ⟨S64x1, .f32⟩
  | 24 => ⟨S64x1, .f32⟩
  | 25 => ⟨S64x16, .f32⟩
  | 26 => ⟨S64x16, .f32⟩
  | 27 => ⟨S_, .f32⟩
  | 28 => ⟨S64x16, .f32⟩
  | 29 => ⟨S_, .f32⟩
  | 30 => ⟨S64x16, .f32⟩
  | 31 => ⟨S64x16, .f32⟩
  | 32 => ⟨S64x16x1, .f32⟩
  | 33 => ⟨S64x16x256, .f32⟩
  | 34 => ⟨S64x16x256, .f32⟩
  | 35 => ⟨S64x16x256, .f32⟩
  | 36 => ⟨S_, .f32⟩
  | 37 => ⟨S64x16, .f32⟩
  | 38 => ⟨S64x16x1, .f32⟩
  | 39 => ⟨S64x16x1, .f32⟩
  | 40 => ⟨S64x16x256, .f32⟩
  | 41 => ⟨S64x16x256, .f32⟩
  | 42 => ⟨S_, .i32⟩
  | 43 => ⟨S10000, .i32⟩
  | 44 => ⟨S10000, .i1⟩
  | 45 => ⟨S_, .i32⟩
  | 46 => ⟨S10000, .i32⟩
  | 47 => ⟨S10000, .i32⟩
  | 48 => ⟨S10000, .i32⟩
  | 49 => ⟨S10000x1, .i32⟩
  | 50 => ⟨S64x16x10000, .f32⟩
  | 51 => ⟨S64x16x1, .f32⟩
  | 52 => ⟨S64x16x10000, .f32⟩
  | 53 => ⟨S64x16x10000, .f32⟩
  | 54 => ⟨S_, .f32⟩
  | 55 => ⟨S64x10000, .f32⟩
  | 56 => ⟨S64x1x10000, .f32⟩
  | 57 => ⟨S64x16x10000, .f32⟩
  | 58 => ⟨S64x16x10000, .f32⟩
  | 59 => ⟨S64x16x10000, .f32⟩
  | 60 => ⟨S_, .f32⟩
  | 61 => ⟨S64x10000, .f32⟩
  | 62 => ⟨S64x10000, .f32⟩
  | 63 => ⟨S64x10000, .f32⟩
  | 64 => ⟨S10000x64, .f32⟩
  | 65 => ⟨S10000x1x64, .f32⟩
  | 66 => ⟨S10000x1x2016, .f32⟩
  | 67 => ⟨S10000x1x2016, .f32⟩
  | 68 => ⟨S10000x2016, .f32⟩
  | 69 => ⟨S10000x128, .f32⟩
  | 70 => ⟨S1x128, .f32⟩
  | 71 => ⟨S10000x128, .f32⟩
  | 72 => ⟨S10000x128, .f32⟩
  | 73 => ⟨S10000x128, .f32⟩
  | 74 => ⟨S10000x1, .f32⟩
  | 75 => ⟨S1x1, .f32⟩
  | 76 => ⟨S10000x1, .f32⟩
  | 77 => ⟨S10000x1, .f32⟩
  | 78 => ⟨S1x10000, .i32⟩
  | 79 => ⟨S64, .i32⟩
  | 80 => ⟨S64x1, .i32⟩
  | 81 => ⟨S64x10000, .i32⟩
  | 82 => ⟨S64x10000, .i32⟩
  | 83 => ⟨S64x10000, .i1⟩
  | 84 => ⟨S10000, .f32⟩
  | 85 => ⟨S1x10000, .f32⟩
  | 86 => ⟨S_, .f32⟩
  | 87 => ⟨S_, .f32⟩
  | 88 => ⟨S64x10000, .f32⟩
  | 89 => ⟨S64x10000, .f32⟩
  | 90 => ⟨S64x10000, .f32⟩
  | 91 => ⟨S_, .f32⟩
  | 92 => ⟨S64, .f32⟩
  | 93 => ⟨S64x1, .f32⟩
  | 94 => ⟨S_, .i32⟩
  | 95 => ⟨S10000, .i32⟩
  | 96 => ⟨S10000, .i1⟩
  | 97 => ⟨S_, .i32⟩
  | 98 => ⟨S10000, .i32⟩
  | 99 => ⟨S10000, .i32⟩
  | 100 => ⟨S10000, .i32⟩
  | 101 => ⟨S10000x1, .i32⟩
  | 102 => ⟨S10000x1, .f32⟩
  | 103 => ⟨S10000x1, .f32⟩
  | 104 => ⟨S10000x1, .f32⟩
  | 105 => ⟨S_, .f32⟩
  | 106 => ⟨S64x1, .f32⟩
  | 107 => ⟨S10000x1, .i32⟩
  | 108 => ⟨S64x1, .f32⟩
  | 109 => ⟨S_, .i32⟩
  | 110 => ⟨S10000, .i32⟩
  | 111 => ⟨S10000, .i1⟩
  | 112 => ⟨S_, .i32⟩
  | 113 => ⟨S10000, .i32⟩
  | 114 => ⟨S10000, .i32⟩
  | 115 => ⟨S10000, .i32⟩
  | 116 => ⟨S10000x1, .i32⟩
  | 117 => ⟨S10000x1, .f32⟩
  | 118 => ⟨S_, .f32⟩
  | 119 => ⟨S10000x1, .f32⟩
  | 120 => ⟨S10000x1, .f32⟩
  | 121 => ⟨S10000x1, .f32⟩
  | 122 => ⟨S10000x2016, .f32⟩
  | 123 => ⟨S10000x2016, .f32⟩
  | 124 => ⟨S_, .f32⟩
  | 125 => ⟨S64x2016, .f32⟩
  | 126 => ⟨S10000x1, .i32⟩
  | 127 => ⟨S64x2016, .f32⟩
  | _ => ⟨S10000, .i32⟩

abbrev hbmTy0_1 (i : Nat) : BufTy := match i % 128 with
  | 0 => ⟨S64x128, .f32⟩
  | 1 => ⟨S1x128, .f32⟩
  | 2 => ⟨S64x128, .f32⟩
  | 3 => ⟨S64x128, .f32⟩
  | _ => ⟨S10000, .i32⟩

abbrev hbmTy (i : Nat) : BufTy := match i / 128 with
  | 0 => hbmTy0_0 i
  | 1 => hbmTy0_1 i
  | _ => ⟨S10000, .i32⟩

abbrev bufTy : (tb : Table) → Fin (tcTables nBuf tb) → BufTy
  | .hbm, ⟨i, _⟩ => hbmTy i
  | _, _ => ⟨S10000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_call0_cst : Ref sig .tc := ⟨.hbm, 12, rfl⟩
abbrev main_call0_v0 : Ref sig .tc := ⟨.hbm, 13, rfl⟩
abbrev main_call0_cst_0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_cst_1 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_v0 : Ref sig .tc := ⟨.hbm, 26, rfl⟩
abbrev main_call1_cst : Ref sig .tc := ⟨.hbm, 27, rfl⟩
abbrev main_call1_v0 : Ref sig .tc := ⟨.hbm, 28, rfl⟩
abbrev main_call1_cst_0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_cst_1 : Ref sig .tc := ⟨.hbm, 36, rfl⟩
abbrev main_call1_v7 : Ref sig .tc := ⟨.hbm, 37, rfl⟩
abbrev main_call1_v8 : Ref sig .tc := ⟨.hbm, 38, rfl⟩
abbrev main_call1_v9 : Ref sig .tc := ⟨.hbm, 39, rfl⟩
abbrev main_call1_v10 : Ref sig .tc := ⟨.hbm, 40, rfl⟩
abbrev main_v1 : Ref sig .tc := ⟨.hbm, 41, rfl⟩
abbrev main_c : Ref sig .tc := ⟨.hbm, 42, rfl⟩
abbrev main_v2 : Ref sig .tc := ⟨.hbm, 43, rfl⟩
abbrev main_v3 : Ref sig .tc := ⟨.hbm, 44, rfl⟩
abbrev main_c_0 : Ref sig .tc := ⟨.hbm, 45, rfl⟩
abbrev main_v4 : Ref sig .tc := ⟨.hbm, 46, rfl⟩
abbrev main_v5 : Ref sig .tc := ⟨.hbm, 47, rfl⟩
abbrev main_v6 : Ref sig .tc := ⟨.hbm, 48, rfl⟩
abbrev main_v7 : Ref sig .tc := ⟨.hbm, 49, rfl⟩
abbrev main_v8 : Ref sig .tc := ⟨.hbm, 50, rfl⟩
abbrev main_v9 : Ref sig .tc := ⟨.hbm, 51, rfl⟩
abbrev main_v10 : Ref sig .tc := ⟨.hbm, 52, rfl⟩
abbrev main_v11 : Ref sig .tc := ⟨.hbm, 53, rfl⟩
abbrev main_cst : Ref sig .tc := ⟨.hbm, 54, rfl⟩
abbrev main_v12 : Ref sig .tc := ⟨.hbm, 55, rfl⟩
abbrev main_v13 : Ref sig .tc := ⟨.hbm, 56, rfl⟩
abbrev main_v14 : Ref sig .tc := ⟨.hbm, 57, rfl⟩
abbrev main_v15 : Ref sig .tc := ⟨.hbm, 58, rfl⟩
abbrev main_v16 : Ref sig .tc := ⟨.hbm, 59, rfl⟩
abbrev main_cst_1 : Ref sig .tc := ⟨.hbm, 60, rfl⟩
abbrev main_v17 : Ref sig .tc := ⟨.hbm, 61, rfl⟩
abbrev main_v18 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_cst_2 : Ref sig .tc := ⟨.hbm, 86, rfl⟩
abbrev main_call2_v0 : Ref sig .tc := ⟨.hbm, 87, rfl⟩
abbrev main_call2_v1 : Ref sig .tc := ⟨.hbm, 88, rfl⟩
abbrev main_call2_v2 : Ref sig .tc := ⟨.hbm, 89, rfl⟩
abbrev main_v42 : Ref sig .tc := ⟨.hbm, 90, rfl⟩
abbrev main_cst_3 : Ref sig .tc := ⟨.hbm, 91, rfl⟩
abbrev main_v43 : Ref sig .tc := ⟨.hbm, 92, rfl⟩
abbrev main_v44 : Ref sig .tc := ⟨.hbm, 93, rfl⟩
abbrev main_c_4 : Ref sig .tc := ⟨.hbm, 94, rfl⟩
abbrev main_v45 : Ref sig .tc := ⟨.hbm, 95, rfl⟩
abbrev main_v46 : Ref sig .tc := ⟨.hbm, 96, rfl⟩
abbrev main_c_5 : Ref sig .tc := ⟨.hbm, 97, rfl⟩
abbrev main_v47 : Ref sig .tc := ⟨.hbm, 98, rfl⟩
abbrev main_v48 : Ref sig .tc := ⟨.hbm, 99, rfl⟩
abbrev main_v49 : Ref sig .tc := ⟨.hbm, 100, rfl⟩
abbrev main_v50 : Ref sig .tc := ⟨.hbm, 101, rfl⟩
abbrev main_v51 : Ref sig .tc := ⟨.hbm, 102, rfl⟩
abbrev main_v52 : Ref sig .tc := ⟨.hbm, 103, rfl⟩
abbrev main_v53 : Ref sig .tc := ⟨.hbm, 104, rfl⟩
abbrev main_cst_6 : Ref sig .tc := ⟨.hbm, 105, rfl⟩
abbrev main_v54 : Ref sig .tc := ⟨.hbm, 106, rfl⟩
abbrev main_v55 : Ref sig .tc := ⟨.hbm, 107, rfl⟩
abbrev main_v56 : Ref sig .tc := ⟨.hbm, 108, rfl⟩
abbrev main_c_7 : Ref sig .tc := ⟨.hbm, 109, rfl⟩
abbrev main_v57 : Ref sig .tc := ⟨.hbm, 110, rfl⟩
abbrev main_v58 : Ref sig .tc := ⟨.hbm, 111, rfl⟩
abbrev main_c_8 : Ref sig .tc := ⟨.hbm, 112, rfl⟩
abbrev main_v59 : Ref sig .tc := ⟨.hbm, 113, rfl⟩
abbrev main_v60 : Ref sig .tc := ⟨.hbm, 114, rfl⟩
abbrev main_v61 : Ref sig .tc := ⟨.hbm, 115, rfl⟩
abbrev main_v62 : Ref sig .tc := ⟨.hbm, 116, rfl⟩
abbrev main_v63 : Ref sig .tc := ⟨.hbm, 117, rfl⟩
abbrev main_cst_9 : Ref sig .tc := ⟨.hbm, 118, rfl⟩
abbrev main_v64 : Ref sig .tc := ⟨.hbm, 119, rfl⟩
abbrev main_v65 : Ref sig .tc := ⟨.hbm, 120, rfl⟩
abbrev main_v66 : Ref sig .tc := ⟨.hbm, 121, rfl⟩
abbrev main_v67 : Ref sig .tc := ⟨.hbm, 122, rfl⟩
abbrev main_v68 : Ref sig .tc := ⟨.hbm, 123, rfl⟩
abbrev main_cst_10 : Ref sig .tc := ⟨.hbm, 124, rfl⟩
abbrev main_v69 : Ref sig .tc := ⟨.hbm, 125, rfl⟩
abbrev main_v70 : Ref sig .tc := ⟨.hbm, 126, rfl⟩
abbrev main_v71 : Ref sig .tc := ⟨.hbm, 127, rfl⟩
abbrev main_v72 : Ref sig .tc := ⟨.hbm, 128, rfl⟩
abbrev main_v73 : Ref sig .tc := ⟨.hbm, 129, rfl⟩
abbrev main_v74 : Ref sig .tc := ⟨.hbm, 130, rfl⟩
abbrev main_v75 : Ref sig .tc := ⟨.hbm, 131, rfl⟩

abbrev nD : Nat := 1
abbrev τ : Topo := Topo.v7x

variable {F : FTy → Type} [FloatOps F]
-- ==== Proof.PreRead.lean ====
/- What the precondition says of the arguments: every node's word is one of the 256 symbols, and the emission table and the
   output weights are real numbers. -/
module

public import proofs.«01_k».proof.Pre_symbols_and_tables
public import Idealize.ShloMosaic.PureOps.Ideal.Laws
public import Idealize.ShloMosaic.Lib.Affine
public import Idealize.ShloMosaic.Lib.ReduceAll
public import Idealize.ShloMosaic.Lib.Pointwise

@[expose] public section

set_option maxRecDepth 16384

noncomputable section

namespace Cert.PreRead

open Cert.Pre_symbols_and_tables Idealize.ShloMosaic

/-- The shape relations the precondition's operations take. -/
theorem facts : Cert.Pre_symbols_and_tables.Facts where
  bcast_S_S10000 := by decide
  reducesTo_S10000_S_d0 := by decide
  h_S_ := by decide
  bcast_S_S64x16x256 := by decide
  reducesTo_S64x16x256_S_d0_1_2 := by decide
  bcast_S_S2016x128 := by decide
  reducesTo_S2016x128_S_d0_1 := by decide

/-- A value whose magnitude is below infinity is a real number. -/
theorem real_of_abs_lt (v : EReal) (h : Ideal.cmp .olt (max v (-v)) (Ideal.ofBits FTy.f32 0x7F800000#32) = 1#1) : ∃ r : ℝ, v = r := by
  have hi : Ideal.ofBits FTy.f32 0x7F800000#32 = (⊤ : EReal) := by simp [Ideal.ofBits, Ideal.ieee]
  rw [hi] at h
  induction v using EReal.rec with
  | bot => simp [Ideal.cmp] at h
  | top => simp [Ideal.cmp] at h
  | coe r => exact ⟨r, rfl⟩

/-- A word between 0 and 255 is a symbol's. -/
theorem symbol_of_range (w : BitVec 32) (h0 : IntOp.cmpi .sge w 0#32 = 1#1) (h1 : IntOp.cmpi .slt w 256#32 = 1#1) : ∃ k : Fin 256, w = BitVec.ofNat 32 k.val := by
  rw [IntOp.cmpi_sge] at h0
  rw [IntOp.cmpi_slt] at h1
  have e0 : (0#32 : BitVec 32).toInt = 0 := by decide
  have e1 : (256#32 : BitVec 32).toInt = 256 := by decide
  rw [e0] at h0
  rw [e1] at h1
  have h2 := BitVec.toInt_eq_toNat_cond w
  have h3 := w.isLt
  have h4 : w.toNat < 256 := by split at h2 <;> omega
  exact ⟨⟨w.toNat, h4⟩, (BitVec.ofNat_toNat 32 w ▸ BitVec.setWidth_eq w).symm⟩

/-- The precondition read. -/
theorem read [hPre : Cert.Pre_symbols_and_tables.Facts] (x : IVec S10000 32) (ei : IVec S2x320000 32) (b : IVec S10000 32) (prior : FVec Ideal S64x16 .f32)
    (emission : FVec Ideal S64x16x256 .f32) (ghW : FVec Ideal S2016x128 .f32) (ghb : FVec Ideal S128 .f32) (goW : FVec Ideal S128x1 .f32)
    (gob : FVec Ideal S1 .f32) (outW : FVec Ideal S2016x128 .f32) (outb : FVec Ideal S128 .f32) (contrastive : FVec Ideal S64x2016 .f32)
    (h : fn (F := Ideal) x ei b prior emission ghW ghb goW gob outW outb contrastive = fun _ => 1#1) :
    (∀ n, ∃ k : Fin 256, x (ix1 n) = BitVec.ofNat 32 k.val) ∧ (∀ i, ∃ r : ℝ, emission i = (r : EReal)) ∧ ∀ i, ∃ r : ℝ, outW i = (r : EReal) := by
  have : Subsingleton S_.Idx := ⟨fun a b => funext fun i => i.elim0⟩
  have hj := congrFun h (Shape.Idx.first Facts.h_S_)
  dsimp only [fn] at hj
  obtain ⟨h1, h3⟩ := IntOp.andi_eq_one.1 hj
  obtain ⟨h1, h2⟩ := IntOp.andi_eq_one.1 h1
  refine ⟨fun n => ?_, fun i => ?_, fun i => ?_⟩
  · have := Host.reduce_andi_all _ _ _ _ _ h1 (ix1 n)
    obtain ⟨ha, hb⟩ := IntOp.andi_eq_one.1 this
    exact symbol_of_range _ ha hb
  · exact real_of_abs_lt _ (Host.reduce_andi_all _ _ _ _ _ h2 i)
  · exact real_of_abs_lt _ (Host.reduce_andi_all _ _ _ _ _ h3 i)

end Cert.PreRead

end
-- ==== Proof.LogSum.lean ====
/- The log-sum-exp identity over the extended reals: the logarithm of a sum of products of two softmaxes, and the log of
   the sum of exponentials (the maximum taken out first) of the sum of the two log-softmaxes, are one value.
   The rows: `a` over the states, anything; `w` over the states and symbols, real. -/
module

public import Idealize.ShloMosaic.PureOps.Ideal.Laws

@[expose] public section

noncomputable section

namespace Cert.Pure

open Idealize.ShloMosaic

/-- The maximum of a finite family over `⊥`. -/
def top {ι : Type} [Fintype ι] (a : ι → EReal) : EReal := Finset.univ.fold max ⊥ a

/-- The maximum is the supremum. -/
theorem top_eq_sup {ι : Type} [Fintype ι] (a : ι → EReal) : top a = Finset.univ.sup a := rfl

/-- Each value is at most the maximum. -/
theorem le_top {ι : Type} [Fintype ι] (a : ι → EReal) (i : ι) : a i ≤ top a := by
  rw [top_eq_sup]; exact Finset.le_sup (Finset.mem_univ i)

/-- The maximum is at most any bound of the values. -/
theorem top_le {ι : Type} [Fintype ι] {a : ι → EReal} {b : EReal} (h : ∀ i, a i ≤ b) : top a ≤ b := by
  rw [top_eq_sup]; exact Finset.sup_le fun i _ => h i

/-- The maximum is one of the family's values, unless it is `⊥`. -/
theorem exists_eq_top {ι : Type} [Fintype ι] (a : ι → EReal) (h : top a ≠ ⊥) : ∃ i, a i = top a := by
  have hne : (Finset.univ : Finset ι).Nonempty := by
    rw [Finset.nonempty_iff_ne_empty]
    intro e
    apply h
    rw [top_eq_sup, e, Finset.sup_empty]
  obtain ⟨i, _, hi⟩ := Finset.exists_mem_eq_sup Finset.univ hne a
  exact ⟨i, by rw [top_eq_sup, hi]⟩

/-- A finite nonempty family of reals has a real maximum. -/
theorem top_coe {ι : Type} [Fintype ι] [Nonempty ι] (w : ι → ℝ) : ∃ r : ℝ, top (fun i => (w i : EReal)) = r := by
  have h : top (fun i => (w i : EReal)) ≠ ⊥ := fun e => by
    have := le_top (fun i => (w i : EReal)) (Classical.arbitrary ι)
    rw [e] at this
    exact EReal.coe_ne_bot _ (le_bot_iff.1 this)
  obtain ⟨i, hi⟩ := exists_eq_top _ h
  exact ⟨w i, hi.symm⟩

/-- A finite sum of reals, taken among the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The quotient of two reals, the second not zero. -/
theorem div_coe_coe (x y : ℝ) (h : y ≠ 0) : Ideal.div (x : EReal) (y : EReal) = ((x / y : ℝ) : EReal) := by
  rw [Ideal.div_coe h, ← EReal.coe_mul, mul_one_div]

/-- The logarithm of a positive real. -/
theorem log_pos_coe {x : ℝ} (h : 0 < x) : Ideal.log (x : EReal) = ((Real.log x : ℝ) : EReal) := by
  rw [Ideal.log_coe, if_neg (not_le.2 h)]

/-- A softmax entry. -/
def soft {ι : Type} [Fintype ι] (a : ι → EReal) (i : ι) : EReal :=
  Ideal.div (Ideal.exp (a i - top a)) (∑ k, Ideal.exp (a k - top a))

/-- A log-softmax entry. -/
def logSoft {ι : Type} [Fintype ι] (a : ι → EReal) (i : ι) : EReal :=
  a i - top a - Ideal.log (∑ k, Ideal.exp (a k - top a))

/-- The log of the sum of exponentials, the maximum taken out first. -/
def logSum {ι : Type} [Fintype ι] (a : ι → EReal) : EReal :=
  Ideal.log (∑ i, Ideal.exp (a i - top a)) + top a

/-- The softmax of a row of reals: positive reals, and the log-softmax their logarithms. -/
theorem soft_real {ι : Type} [Fintype ι] [Nonempty ι] (w : ι → ℝ) :
    ∃ q : ι → ℝ, (∀ i, 0 < q i) ∧ (∀ i, soft (fun i => (w i : EReal)) i = q i) ∧ ∀ i, logSoft (fun i => (w i : EReal)) i = (Real.log (q i) : EReal) := by
  obtain ⟨t, ht⟩ := top_coe w
  have hS : (∑ k, Ideal.exp ((w k : EReal) - top fun i => (w i : EReal))) = ((∑ k, Real.exp (w k - t) : ℝ) : EReal) := by
    rw [coe_sum]
    refine Finset.sum_congr rfl fun k _ => ?_
    rw [ht, ← EReal.coe_sub, Ideal.exp_coe]
  have hpos : 0 < ∑ k, Real.exp (w k - t) := Finset.sum_pos (fun k _ => Real.exp_pos _) Finset.univ_nonempty
  refine ⟨fun i => Real.exp (w i - t) / ∑ k, Real.exp (w k - t), fun i => div_pos (Real.exp_pos _) hpos, fun i => ?_, fun i => ?_⟩
  · show Ideal.div (Ideal.exp ((w i : EReal) - top fun i => (w i : EReal))) _ = _
    rw [hS, ht, ← EReal.coe_sub, Ideal.exp_coe, div_coe_coe _ _ hpos.ne']
  · show (w i : EReal) - top (fun i => (w i : EReal)) - Ideal.log _ = _
    rw [hS, ht, log_pos_coe hpos, ← EReal.coe_sub, ← EReal.coe_sub, Real.log_div (Real.exp_pos _).ne' hpos.ne', Real.log_exp]

/-- The softmax of any row: either every softmax entry and log-softmax entry is `⊥`, or the softmax entries are nonnegative
    reals, one of them positive, and the log-softmax their logarithms. -/
theorem soft_cases {ι : Type} [Fintype ι] (a : ι → EReal) :
    (∀ i, soft a i = ⊥ ∧ logSoft a i = ⊥) ∨
      ∃ u : ι → ℝ, (∀ i, 0 ≤ u i) ∧ (∃ i, 0 < u i) ∧ (∀ i, soft a i = u i) ∧ ∀ i, logSoft a i = Ideal.log (u i) := by
  by_cases hb : ∀ i, a i - top a = ⊥
  · left
    intro i
    have hS : (∑ k, Ideal.exp (a k - top a)) = 0 := Finset.sum_eq_zero fun k _ => by rw [hb k, Ideal.exp_bot]
    constructor
    · show Ideal.div _ _ = _
      rw [hS, hb i, Ideal.exp_bot, Ideal.div, if_pos rfl, if_neg (lt_irrefl _)]
    · show a i - top a - _ = ⊥
      rw [hb i, sub_eq_add_neg, EReal.bot_add]
  · right
    obtain ⟨t, ht⟩ : ∃ t : ℝ, top a = t := by
      induction h : top a using EReal.rec with
      | bot =>
        refine absurd (fun i => ?_) hb
        have := le_top a i
        rw [h, le_bot_iff] at this
        rw [this, sub_eq_add_neg, EReal.bot_add]
      | top =>
        refine absurd (fun i => ?_) hb
        rw [h, sub_eq_add_neg, EReal.neg_top, EReal.add_bot]
      | coe t => exact ⟨t, rfl⟩
    have hne : ∀ i, a i ≠ ⊤ := fun i e => by
      have := le_top a i
      rw [e, ht, top_le_iff] at this
      exact EReal.coe_ne_top _ this
    -- the exponentials are nonnegative reals
    have hex : ∀ i, ∃ r : ℝ, 0 ≤ r ∧ Ideal.exp (a i - top a) = r ∧ a i - top a = Ideal.log r := by
      intro i
      rw [ht]
      induction h : a i using EReal.rec with
      | bot => exact ⟨0, le_rfl, by rw [sub_eq_add_neg, EReal.bot_add, Ideal.exp_bot]; rfl,
          by rw [sub_eq_add_neg, EReal.bot_add, Ideal.log_coe, if_pos le_rfl]⟩
      | top => exact absurd h (hne i)
      | coe r => exact ⟨Real.exp (r - t), (Real.exp_pos _).le, by rw [← EReal.coe_sub, Ideal.exp_coe],
          by rw [log_pos_coe (Real.exp_pos _), Real.log_exp, EReal.coe_sub]⟩
    choose r hr0 hr hrl using hex
    obtain ⟨i₀, hi₀⟩ := exists_eq_top a (by rw [ht]; exact EReal.coe_ne_bot _)
    have hri₀ : 0 < r i₀ := by
      have h1 : ((r i₀ : ℝ) : EReal) = ((1 : ℝ) : EReal) := by
        rw [← hr i₀, hi₀, ht, ← EReal.coe_sub, sub_self, Ideal.exp_coe, Real.exp_zero]
      rw [EReal.coe_eq_coe_iff.1 h1]
      exact one_pos
    have hpos : 0 < ∑ k, r k := Finset.sum_pos' (fun k _ => hr0 k) ⟨i₀, Finset.mem_univ _, hri₀⟩
    have hS : (∑ k, Ideal.exp (a k - top a)) = ((∑ k, r k : ℝ) : EReal) := by
      rw [coe_sum]; exact Finset.sum_congr rfl fun k _ => hr k
    refine ⟨fun i => r i / ∑ k, r k, fun i => div_nonneg (hr0 i) hpos.le, ⟨i₀, div_pos hri₀ hpos⟩, fun i => ?_, fun i => ?_⟩
    · show Ideal.div _ _ = _
      rw [hS, hr i, div_coe_coe _ _ hpos.ne']
    · show a i - top a - Ideal.log _ = Ideal.log ((r i / ∑ k, r k : ℝ) : EReal)
      rw [hS, hrl i, log_pos_coe hpos]
      rcases (hr0 i).lt_or_eq with h | h
      · rw [log_pos_coe h, log_pos_coe (div_pos h hpos), Real.log_div h.ne' hpos.ne', EReal.coe_sub]
      · rw [← h, zero_div, Ideal.log_coe, if_pos le_rfl, sub_eq_add_neg, EReal.bot_add]

/-- The identity: for any row `a` and positive reals `q` with logarithms in place of the second log-softmax. -/
theorem log_sum_eq {ι : Type} [Fintype ι] [Nonempty ι] (a : ι → EReal) (q : ι → ℝ) (hq : ∀ i, 0 < q i) :
    Ideal.log (∑ i, soft a i * (q i : EReal)) = logSum fun i => logSoft a i + (Real.log (q i) : EReal) := by
  rcases soft_cases a with h | ⟨u, hu0, ⟨i₀, hi₀⟩, hu, hl⟩
  · have h1 : ∀ i, soft a i * (q i : EReal) = ⊥ := fun i => by rw [(h i).1]; exact EReal.bot_mul_coe_of_pos (hq i)
    have h2 : (fun i => logSoft a i + (Real.log (q i) : EReal)) = fun _ : ι => (⊥ : EReal) := funext fun i => by rw [(h i).2, EReal.bot_add]
    have h3 : top (fun _ : ι => (⊥ : EReal)) = ⊥ := le_bot_iff.1 (top_le fun _ => le_rfl)
    have h4 : (∑ i, soft a i * (q i : EReal)) = ⊥ := by
      classical
      rw [Finset.sum_congr rfl fun i _ => h1 i, ← Finset.add_sum_erase _ _ (Finset.mem_univ (Classical.arbitrary ι)), EReal.bot_add]
    rw [h4, h2, logSum, h3, EReal.add_bot]
    rfl
  · have hs : (∑ i, soft a i * (q i : EReal)) = ((∑ i, u i * q i : ℝ) : EReal) := by
      rw [coe_sum]
      exact Finset.sum_congr rfl fun i _ => by rw [hu i, EReal.coe_mul]
    have hpos : 0 < ∑ i, u i * q i :=
      Finset.sum_pos' (fun k _ => mul_nonneg (hu0 k) (hq k).le) ⟨i₀, Finset.mem_univ _, mul_pos hi₀ (hq i₀)⟩
    -- the joint logarithms
    have hj : ∀ i, logSoft a i + (Real.log (q i) : EReal) = Ideal.log ((u i * q i : ℝ) : EReal) := fun i => by
      rw [hl i]
      rcases (hu0 i).lt_or_eq with h | h
      · rw [log_pos_coe h, log_pos_coe (mul_pos h (hq i)), Real.log_mul h.ne' (hq i).ne', EReal.coe_add]
      · rw [← h, zero_mul, Ideal.log_coe, if_pos le_rfl, EReal.bot_add]
    have hj' : (fun i => logSoft a i + (Real.log (q i) : EReal)) = fun i => Ideal.log ((u i * q i : ℝ) : EReal) := funext hj
    rw [hj', hs]
    obtain ⟨t, ht⟩ : ∃ t : ℝ, top (fun i => Ideal.log ((u i * q i : ℝ) : EReal)) = t := by
      have hb : top (fun i => Ideal.log ((u i * q i : ℝ) : EReal)) ≠ ⊥ := fun e => by
        have h1 : Ideal.log ((u i₀ * q i₀ : ℝ) : EReal) ≤ _ := le_top (fun i => Ideal.log ((u i * q i : ℝ) : EReal)) i₀
        rw [e, le_bot_iff, log_pos_coe (mul_pos hi₀ (hq i₀))] at h1
        exact EReal.coe_ne_bot _ h1
      obtain ⟨i, hi⟩ := exists_eq_top _ hb
      rw [← hi] at hb ⊢
      rcases (mul_nonneg (hu0 i) (hq i).le).lt_or_eq with h | h
      · exact ⟨_, log_pos_coe h⟩
      · exact absurd (by rw [← h, Ideal.log_coe, if_pos le_rfl]) hb
    have he : ∀ i, Ideal.exp (Ideal.log ((u i * q i : ℝ) : EReal) - top (fun i => Ideal.log ((u i * q i : ℝ) : EReal)))
        = ((u i * q i / Real.exp t : ℝ) : EReal) := fun i => by
      rw [ht]
      rcases (mul_nonneg (hu0 i) (hq i).le).lt_or_eq with h | h
      · rw [log_pos_coe h, ← EReal.coe_sub, Ideal.exp_coe, Real.exp_sub, Real.exp_log h]
      · rw [← h, Ideal.log_coe, if_pos le_rfl, sub_eq_add_neg, EReal.bot_add, Ideal.exp_bot, zero_div]; rfl
    rw [logSum, Finset.sum_congr rfl fun i _ => he i, ← coe_sum, ht, ← Finset.sum_div,
      log_pos_coe (div_pos hpos (Real.exp_pos t)), log_pos_coe hpos, Real.log_div hpos.ne' (Real.exp_pos t).ne', Real.log_exp, ← EReal.coe_add]
    congr 1
    ring

/-- The logarithm of the sum over the states of the products of the two softmaxes is the log of the sum of exponentials of the
    sums of the two log-softmaxes, the second row's tables real. -/
theorem table_eq {ι κ : Type} [Fintype ι] [Nonempty ι] [Fintype κ] [Nonempty κ] (a : ι → EReal) (w : ι → κ → EReal)
    (hw : ∀ i k, ∃ r : ℝ, w i k = r) (k : κ) :
    Ideal.log (∑ i, soft a i * soft (w i) k) = logSum fun i => logSoft a i + logSoft (w i) k := by
  choose r hr using hw
  have hw' : ∀ i, w i = fun k => (r i k : EReal) := fun i => funext fun k => hr i k
  choose q hq0 hq hql using fun i => soft_real (r i)
  have h1 : ∀ i, soft (w i) k = (q i k : EReal) := fun i => by rw [hw' i]; exact hq i k
  have h2 : ∀ i, logSoft (w i) k = (Real.log (q i k) : EReal) := fun i => by rw [hw' i]; exact hql i k
  simp only [h1, h2]
  exact log_sum_eq a (fun i => q i k) fun i => hq0 i k

end Cert.Pure

end
-- ==== Proof.Pool.lean ====
/- Attention pooling over one group of nodes, by the nodes and by the symbols they carry: the greatest gate, the sum of the
   weights and the pooled output are the same, the sums over the symbols weighted by how many nodes of the group carry each. -/
module

public import proofs.«01_k».proof.Proof.LogSum

@[expose] public section

noncomputable section

namespace Cert.Pure

open Idealize.ShloMosaic

section
variable {ν μ π : Type} [Fintype ν] [Fintype μ] [Fintype π] [DecidableEq μ] (S : ν → Prop) [DecidablePred S] (X : ν → μ) (γ : μ → EReal)

/-- How many nodes of the group carry the symbol, as a sum of products of indicators. -/
def count (m : μ) : EReal := ∑ n, (if S n then (1 : EReal) else 0) * (if X n = m then (1 : EReal) else 0)

/-- The same as a real number. -/
def countR (m : μ) : ℝ := ∑ n, if S n ∧ X n = m then (1 : ℝ) else 0

/-- The sum of products is the real count. -/
theorem count_eq (m : μ) : count S X m = (countR S X m : EReal) := by
  unfold count countR
  rw [coe_sum]
  refine Finset.sum_congr rfl fun n _ => ?_
  by_cases h1 : S n <;> by_cases h2 : X n = m <;> simp [h1, h2]

/-- The count is positive exactly for the symbols that a node of the group carries. -/
theorem count_pos (m : μ) : 0 < count S X m ↔ ∃ n, S n ∧ X n = m := by
  rw [count_eq, EReal.coe_pos, countR]
  constructor
  · intro h
    by_contra hn
    rw [Finset.sum_eq_zero fun n _ => if_neg fun hc => hn ⟨n, hc⟩] at h
    exact lt_irrefl _ h
  · rintro ⟨n, hn⟩
    exact Finset.sum_pos' (fun n _ => by split <;> norm_num) ⟨n, Finset.mem_univ _, by rw [if_pos hn]; exact one_pos⟩

/-- The greatest gate over the symbols present, and over the group's nodes. -/
theorem top_present : top (fun m => if 0 < count S X m then γ m else ⊥) = top (fun n => if S n then γ (X n) else ⊥) := by
  refine le_antisymm (top_le fun m => ?_) (top_le fun n => ?_)
  · by_cases h : 0 < count S X m
    · rw [if_pos h]
      obtain ⟨n, hn, rfl⟩ := (count_pos S X m).1 h
      have := le_top (fun n => if S n then γ (X n) else ⊥) n
      rwa [if_pos hn] at this
    · rw [if_neg h]; exact bot_le
  · by_cases h : S n
    · rw [if_pos h]
      have := le_top (fun m => if 0 < count S X m then γ m else ⊥) (X n)
      rwa [if_pos ((count_pos S X _).2 ⟨n, h, rfl⟩)] at this
    · rw [if_neg h]; exact bot_le

/-- A sum over the symbols weighted by the counts is the sum over the group's nodes. -/
theorem sum_count (f : μ → ℝ) : ∑ m, f m * countR S X m = ∑ n, if S n then f (X n) else 0 := by
  unfold countR
  simp only [Finset.mul_sum]
  rw [Finset.sum_comm]
  refine Finset.sum_congr rfl fun n _ => ?_
  by_cases h : S n
  · rw [if_pos h, Finset.sum_eq_single (X n)]
    · rw [if_pos ⟨h, rfl⟩, mul_one]
    · intro m _ hm
      rw [if_neg fun hc => hm hc.2.symm, mul_zero]
    · exact fun hc => absurd (Finset.mem_univ _) hc
  · rw [if_neg h]
    exact Finset.sum_eq_zero fun m _ => by rw [if_neg fun hc => h hc.1, mul_zero]

/-- The exponential of a value no greater than what is subtracted from it is a nonnegative real. -/
theorem exp_sub_real {g G : EReal} (h : g ≤ G) : ∃ r : ℝ, 0 ≤ r ∧ Ideal.exp (g - G) = r := by
  have h0 : g - G ≠ ⊤ := by
    induction G using EReal.rec with
    | bot =>
      rw [le_bot_iff.1 h, sub_eq_add_neg, EReal.bot_add]
      exact bot_ne_top
    | top =>
      rw [sub_eq_add_neg, EReal.neg_top, EReal.add_bot]
      exact bot_ne_top
    | coe t =>
      induction g using EReal.rec with
      | bot => rw [sub_eq_add_neg, EReal.bot_add]; exact bot_ne_top
      | top => exact absurd (top_le_iff.1 h) (EReal.coe_ne_top _)
      | coe s => rw [← EReal.coe_sub]; exact EReal.coe_ne_top _
  induction h1 : g - G using EReal.rec with
  | bot => exact ⟨0, le_rfl, rfl⟩
  | top => exact absurd h1 h0
  | coe s => exact ⟨Real.exp s, (Real.exp_pos _).le, rfl⟩

/-- The group's greatest gate. -/
abbrev topGate : EReal := top fun m => if 0 < count S X m then γ m else ⊥

/-- The weights of the symbols, zero for the absent ones, are nonnegative reals. -/
theorem exists_weights : ∃ r : μ → ℝ, (∀ m, 0 ≤ r m) ∧
    (∀ m, (if 0 < count S X m then Ideal.exp (γ m - topGate S X γ) else 0) = r m) ∧ ∀ n, S n → Ideal.exp (γ (X n) - topGate S X γ) = r (X n) := by
  have h : ∀ m, ∃ r : ℝ, 0 ≤ r ∧ (if 0 < count S X m then Ideal.exp (γ m - topGate S X γ) else 0) = r := by
    intro m
    by_cases h : 0 < count S X m
    · have h1 := le_top (fun m => if 0 < count S X m then γ m else ⊥) m
      rw [if_pos h] at h1
      obtain ⟨r, hr0, hr⟩ := exp_sub_real h1
      exact ⟨r, hr0, by rw [if_pos h]; exact hr⟩
    · exact ⟨0, le_rfl, by rw [if_neg h]; rfl⟩
  choose r hr0 hr using h
  refine ⟨r, hr0, hr, fun n hn => ?_⟩
  rw [← hr (X n), if_pos ((count_pos S X _).2 ⟨n, hn, rfl⟩)]

/-- The pooled output over the symbols is the pooled output over the nodes. `e` and `d` are the nodes' weights and the sum of
    their group's weights, known only for the nodes of the group. -/
theorem pool_eq (t : π → μ → ℝ) (w : π → ℝ) (ε : ℝ) (hε : 0 < ε) (e d : ν → EReal)
    (he : ∀ n, S n → e n = Ideal.exp (γ (X n) - topGate S X γ)) (hd : ∀ n, S n → d n = ∑ k, if S k then e k else 0) :
    Ideal.div (∑ m, (if 0 < count S X m then Ideal.exp (γ m - topGate S X γ) else 0) * count S X m * ∑ p, (w p : EReal) * (t p m : EReal))
        ((∑ m, (if 0 < count S X m then Ideal.exp (γ m - topGate S X γ) else 0) * count S X m) + (ε : EReal))
      = ∑ p, (∑ n, if S n then Ideal.div (e n) (d n + (ε : EReal)) * (t p (X n) : EReal) else 0) * (w p : EReal) := by
  obtain ⟨r, hr0, hr, hrn⟩ := exists_weights S X γ
  have hD0 : 0 ≤ ∑ n, if S n then r (X n) else 0 := Finset.sum_nonneg fun n _ => by split; exacts [hr0 _, le_rfl]
  have hD : 0 < (∑ n, if S n then r (X n) else 0) + ε := by linarith
  have hden : (∑ k, if S k then e k else 0) = ((∑ n, if S n then r (X n) else 0 : ℝ) : EReal) := by
    rw [coe_sum]
    refine Finset.sum_congr rfl fun n _ => ?_
    by_cases h : S n
    · rw [if_pos h, if_pos h, he n h, hrn n h]
    · rw [if_neg h, if_neg h]; rfl
  have hk : ∀ m, (if 0 < count S X m then Ideal.exp (γ m - topGate S X γ) else 0) * count S X m = ((r m * countR S X m : ℝ) : EReal) :=
    fun m => by rw [hr m, count_eq, EReal.coe_mul]
  have hkd : (∑ m, ((r m * countR S X m : ℝ) : EReal)) = ((∑ n, if S n then r (X n) else 0 : ℝ) : EReal) := by
    rw [← coe_sum, sum_count]
  have hkn : (∑ m, ((r m * countR S X m : ℝ) : EReal) * ∑ p, (w p : EReal) * (t p m : EReal))
      = ((∑ n, if S n then r (X n) * ∑ p, w p * t p (X n) else 0 : ℝ) : EReal) := by
    rw [← sum_count S X fun m => r m * ∑ p, w p * t p m, coe_sum]
    refine Finset.sum_congr rfl fun m _ => ?_
    rw [mul_right_comm (r m), EReal.coe_mul (r m * countR S X m), coe_sum]
    simp only [EReal.coe_mul]
  have hR : ∀ p, (∑ n, if S n then Ideal.div (e n) (d n + (ε : EReal)) * (t p (X n) : EReal) else 0)
      = ((∑ n, if S n then r (X n) / ((∑ n, if S n then r (X n) else 0) + ε) * t p (X n) else 0 : ℝ) : EReal) := fun p => by
    rw [coe_sum]
    refine Finset.sum_congr rfl fun n _ => ?_
    by_cases h : S n
    · rw [if_pos h, if_pos h, hd n h, hden, he n h, hrn n h, ← EReal.coe_add, div_coe_coe _ _ hD.ne', ← EReal.coe_mul]
    · rw [if_neg h, if_neg h]; rfl
  simp only [hk]
  rw [hkd, hkn, ← EReal.coe_add, div_coe_coe _ _ hD.ne']
  simp only [hR, ← EReal.coe_mul]
  rw [← coe_sum]
  congr 1
  rw [Finset.sum_div]
  simp only [Finset.sum_mul]
  rw [Finset.sum_comm]
  refine Finset.sum_congr rfl fun n _ => ?_
  by_cases h : S n
  · simp only [if_pos h]
    rw [Finset.mul_sum, Finset.sum_div]
    refine Finset.sum_congr rfl fun p _ => ?_
    ring
  · simp only [if_neg h, zero_div, zero_mul, Finset.sum_const_zero]

end

end Cert.Pure

end
-- ==== Proof.KTables.lean ====
/- The kernel body's values at an index: the table of neurons, its two linear maps, the counts of the symbols, the gates and the
   output, each as sums and maxima over the coordinates. -/
module

public import proofs.«01_k».proof.Proof.Gen.KernelIdeal.Skeleton
public import proofs.«01_k».proof.Proof.Pool
public import Idealize.ShloMosaic.Lib.Pointwise
public import Idealize.ShloMosaic.Lib.WordCmp

@[expose] public section

set_option maxRecDepth 16384

noncomputable section

namespace Cert.KernelIdeal.Tables

open Cert.KernelIdeal Cert.KernelIdeal.Gen Idealize.ShloMosaic

/-- The pattern 0xFF800000 is minus infinity. -/
theorem low_eq : Ideal.ofBits FTy.f32 4286578688#32 = (⊥ : EReal) := by simp [Ideal.ofBits, Ideal.ieee]

/-- The mask's value is minus infinity. -/
theorem mask_eq : (Named.named (F := Ideal) κ "mask" (φ := .f32) 4048155338#32) = (⊥ : EReal) :=
  IdealRules.named_const.ideal_named_scalar κ "mask" _ ⊥ rfl

/-- A comparison's bit, widened and converted, is one or zero. -/
theorem bit_eq (p : Prop) [Decidable p] : FloatOps.sitofp (F := Ideal) FTy.f32 (BitVec.setWidth 32 (BitVec.ofBool (decide p))) = (if p then (1 : EReal) else 0) := by
  show (((BitVec.setWidth 32 (BitVec.ofBool (decide p))).toInt : ℝ) : EReal) = _
  by_cases h : p
  · rw [if_pos h, decide_eq_true h, show (BitVec.setWidth 32 (BitVec.ofBool true)).toInt = 1 by decide]; norm_num
  · rw [if_neg h, decide_eq_false h, show (BitVec.setWidth 32 (BitVec.ofBool false)).toInt = 0 by decide]; norm_num

/-- Symbol words below 256 are equal exactly when the symbols are. -/
theorem symbol_eq (a b : Fin 256) : BitVec.ofNat 32 a.val = BitVec.ofNat 32 b.val ↔ b = a := by
  constructor
  · intro h
    have h1 := congrArg BitVec.toNat h
    simp only [BitVec.toNat_ofNat] at h1
    have ha := a.isLt
    have hb := b.isLt
    apply Fin.ext
    omega
  · rintro rfl; rfl

/-- The neurons' table: per neuron and symbol. -/
theorem pay2_apply (v0 : Vec Ideal S64x16 .f32) (v10 : Vec Ideal S64x16x256 .f32) (v25 : Vec Ideal S64x2016 .f32) (p : Fin 2016) (q : Fin 256) :
    k0_pay2 (F := Ideal) v0 v10 v25 (ix2 p q) = Ideal.tanh (∑ g : Fin 64, (v25 (ix2 g p) : EReal) * Ideal.log (∑ c : Fin 16,
      Pure.soft (fun c => (v0 (ix2 g c) : EReal)) c * Pure.soft (fun q => (v10 (ix3 g c q) : EReal)) q)) := by
  pointwise [k0_pay2]
  simp only [low_eq]
  rfl

/-- The gate network's hidden pre-activation before its bias. -/
theorem pay4_apply (v0 : Vec Ideal S64x16 .f32) (v10 : Vec Ideal S64x16x256 .f32) (v25 : Vec Ideal S64x2016 .f32) (v30 : Vec Ideal S2016x128 .f32) (h : Fin 128) (q : Fin 256) :
    k0_pay4 (F := Ideal) v0 v10 v25 v30 (ix2 h q) = ∑ p : Fin 2016, (v30 (ix2 p h) : EReal) * k0_pay2 (F := Ideal) v0 v10 v25 (ix2 p q) := by
  pointwise [k0_pay4, k0_pay2]

/-- The hidden bias is read as it is. -/
theorem pay5_apply (v : Vec Ideal S128x1 .f32) (h : Fin 128) : k0_pay5 (F := Ideal) v (ix2 h 0) = v (ix2 h 0) := by
  pointwise [k0_pay5]

/-- The output layer applied to the neurons of each symbol. -/
theorem pay6_apply (v29 : FVec Ideal S2016x256 .bf16) (v33 : Vec Ideal S2016x128 .f32) (f : Fin 128) (q : Fin 256) :
    k0_pay6 (F := Ideal) v29 (k0_pay3 v33) (ix2 f q) = ∑ p : Fin 2016, (v33 (ix2 p f) : EReal) * (v29 (ix2 p q) : EReal) := by
  pointwise [k0_pay6, k0_pay3]

/-- How many of a graph's nodes carry a symbol. -/
theorem pay7_apply (x b : Vec Ideal S1x1x10000 .i32) (X : Fin 10000 → Fin 256) (hX : ∀ n, x (ix3 0 0 n) = BitVec.ofNat 32 (X n).val) (g : Fin 64) (q : Fin 256) :
    k0_pay7 (F := Ideal) x b (ix2 g q) = Pure.count (fun n => b (ix3 0 0 n) = BitVec.ofNat 32 g.val) X q := by
  pointwise [k0_pay7]
  unfold Pure.count
  refine Finset.sum_congr rfl fun n _ => ?_
  rw [WordCmp.cmpi_eq_eq, WordCmp.cmpi_eq_eq, bit_eq, bit_eq, hX n]
  simp only [symbol_eq, eq_comm (a := BitVec.ofNat 32 g.val)]

/-- Whether a graph holds a symbol. -/
theorem pay8_apply (x b : Vec Ideal S1x1x10000 .i32) (g : Fin 64) (q : Fin 256) :
    k0_pay8 (F := Ideal) x b (ix2 g q) = BitVec.ofBool (decide ((0 : EReal) < k0_pay7 (F := Ideal) x b (ix2 g q))) := by
  pointwise [k0_pay8, k0_pay7]

/-- The gate of a symbol, from the hidden pre-activations. -/
def gateOf (v36 : FVec Ideal S128x256 .f32) (v38 v42 : Vec Ideal S128x1 .f32) (v47 : Vec Ideal S1x1 .f32) (q : Fin 256) : EReal :=
  (∑ h : Fin 128, Ideal.tanh (v36 (ix2 h q) + v38 (ix2 h 0)) * v42 (ix2 h 0)) + v47 (ix2 0 0)

/-- The exponential of a symbol's gate below the greatest of those the graph holds. -/
theorem pay9_apply (v36 : FVec Ideal S128x256 .f32) (v38 v42 : Vec Ideal S128x1 .f32) (v47 : Vec Ideal S1x1 .f32) (x b : Vec Ideal S1x1x10000 .i32) (g : Fin 64) (q : Fin 256) :
    k0_pay9 (F := Ideal) v36 v38 v42 v47 x b (ix2 g q) = Ideal.exp (gateOf v36 v38 v42 v47 q
      - Pure.top fun q => if (0 : EReal) < k0_pay7 (F := Ideal) x b (ix2 g q) then gateOf v36 v38 v42 v47 q else ⊥) := by
  pointwise [k0_pay9]
  simp only [pay8_apply, low_eq, mask_eq, WordCmp.select_decide]
  rfl

/-- The output of a graph, from the symbols' values. -/
theorem pay1_apply (v51 : FVec Ideal S128x256 .f32) (v68 : FVec Ideal S64x256 .f32) (v70 : IVec S64x256 1) (v80 : FVec Ideal S64x256 .f32) (v91 : Vec Ideal S1x128 .f32) (g : Fin 64) (f : Fin 128) :
    k0_pay1 (F := Ideal) v51 v68 v70 v80 k0_pay10 v91 (ix2 g f) =
      Ideal.div (∑ q : Fin 256, Scalar.select (v70 (ix2 g q)) (v80 (ix2 g q) : EReal) 0 * v68 (ix2 g q) * v51 (ix2 f q))
        ((∑ q : Fin 256, Scalar.select (v70 (ix2 g q)) (v80 (ix2 g q) : EReal) 0 * v68 (ix2 g q)) + Ideal.ofBits FTy.f32 619091349#32) + v91 (ix2 0 f) := by
  pointwise [k0_pay1, k0_pay10]

end Cert.KernelIdeal.Tables

end
-- ==== Proof.KernelRun.lean ====
/- The kernel's run: its one grid point's blocks are the operands whole, so the result array is the body's value of the
   operands, five of them arguments reshaped. -/
module

public import proofs.«01_k».proof.Proof.Gen.KernelIdeal.Value
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.Run

open Cert.KernelIdeal Cert.KernelIdeal.Gen Cert.KernelIdeal.Value

variable (m : (ℓ : Loc nD τ sig) → Buf (Elt Ideal) ℓ)

/-- The body's value of its operands. -/
def body (x b : Vec Ideal S1x1x10000 .i32) (prior : Vec Ideal S64x16 .f32) (emission : Vec Ideal S64x16x256 .f32) (contrastive : Vec Ideal S64x2016 .f32)
    (ghW : Vec Ideal S2016x128 .f32) (ghb goW : Vec Ideal S128x1 .f32) (gob : Vec Ideal S1x1 .f32) (outW : Vec Ideal S2016x128 .f32)
    (outb : Vec Ideal S1x128 .f32) : Vec Ideal S64x128 .f32 :=
  k0_pay1 (k0_pay6 (k0_pay2 prior emission contrastive) (k0_pay3 outW)) (k0_pay7 x b) (k0_pay8 x b)
    (k0_pay9 (k0_pay4 prior emission contrastive ghW) (k0_pay5 ghb) goW gob x b) k0_pay10 outb

/-- The word array of the nodes as the kernel's operand. -/
def row (x : Vec Ideal S10000 .i32) : Vec Ideal S1x1x10000 .i32 := shapeCast S1x1x10000 x shapeCasts_S10000_S1x1x10000

/-- The hidden bias as the kernel's operand. -/
def col (v : Vec Ideal S128 .f32) : Vec Ideal S128x1 .f32 := shapeCast S128x1 v shapeCasts_S128_S128x1

/-- The gate's bias as the kernel's operand. -/
def one (v : Vec Ideal S1 .f32) : Vec Ideal S1x1 .f32 := shapeCast S1x1 v shapeCasts_S1_S1x1

/-- The output bias as the kernel's operand. -/
def line (v : Vec Ideal S128 .f32) : Vec Ideal S1x128 .f32 := shapeCast S1x128 v shapeCasts_S128_S1x128

/-- The row read at a node. -/
theorem row_apply (x : Vec Ideal S10000 .i32) (n : Fin 10000) : row x (ix3 0 0 n) = x (ix1 n) := by pointwise [row]

/-- The column read at a hidden unit. -/
theorem col_apply (v : Vec Ideal S128 .f32) (h : Fin 128) : col v (ix2 h 0) = v (ix1 h) := by pointwise [col]

/-- The 1 by 1 array read. -/
theorem one_apply (v : Vec Ideal S1 .f32) : one v (ix2 0 0) = v (ix1 0) := by pointwise [one]

/-- The output bias's row read at a coordinate. -/
theorem line_apply (v : Vec Ideal S128 .f32) (f : Fin 128) : line v (ix2 0 f) = v (ix1 f) := by pointwise [line]

/-- Every window's block index at the one point (decided). -/
theorem idx : ∀ t : Fin cfg0.N, win0_0.index t = ![0, 0, 0]
    ∧ win0_1.index t = ![0, 0, 0]
    ∧ win0_2.index t = ![0, 0]
    ∧ win0_3.index t = ![0, 0, 0]
    ∧ win0_4.index t = ![0, 0]
    ∧ win0_5.index t = ![0, 0]
    ∧ win0_6.index t = ![0, 0]
    ∧ win0_7.index t = ![0, 0]
    ∧ win0_8.index t = ![0, 0]
    ∧ win0_9.index t = ![0, 0]
    ∧ win0_10.index t = ![0, 0]
    ∧ win0_11.index t = ![0, 0] :=
  (by decide +kernel : ∀ t : Fin grid0.N, _)

/-- The block of operand 0 at the one point is the nodes' symbols, as one row. -/
theorem iblk0 (c : Dev nD) : iblk m c 0 t0_0 = row (m ((c : Thread nD τ).loc main_arg0)) := by
  blk_ext! [iblk, V, idx t0_0, row]

/-- The block of operand 1 at the one point is the nodes' graphs, as one row. -/
theorem iblk1 (c : Dev nD) : iblk m c 1 t0_0 = row (m ((c : Thread nD τ).loc main_arg2)) := by
  blk_ext! [iblk, V, idx t0_0, row]

/-- The block of operand 2 at the one point is the prior. -/
theorem iblk2 (c : Dev nD) : iblk m c 2 t0_0 = m ((c : Thread nD τ).loc main_arg3) := by
  blk_ext! [iblk, V, idx t0_0]

/-- The block of operand 3 at the one point is the emission table. -/
theorem iblk3 (c : Dev nD) : iblk m c 3 t0_0 = m ((c : Thread nD τ).loc main_arg4) := by
  blk_ext! [iblk, V, idx t0_0]

/-- The block of operand 4 at the one point is the contrastive matrix. -/
theorem iblk4 (c : Dev nD) : iblk m c 4 t0_0 = m ((c : Thread nD τ).loc main_arg11) := by
  blk_ext! [iblk, V, idx t0_0]

/-- The block of operand 5 at the one point is the gate network's hidden weights. -/
theorem iblk5 (c : Dev nD) : iblk m c 5 t0_0 = m ((c : Thread nD τ).loc main_arg5) := by
  blk_ext! [iblk, V, idx t0_0]

/-- The block of operand 6 at the one point is the hidden bias, as a column. -/
theorem iblk6 (c : Dev nD) : iblk m c 6 t0_0 = col (m ((c : Thread nD τ).loc main_arg6)) := by
  blk_ext! [iblk, V, idx t0_0, col]

/-- The block of operand 7 at the one point is the gate's weights. -/
theorem iblk7 (c : Dev nD) : iblk m c 7 t0_0 = m ((c : Thread nD τ).loc main_arg7) := by
  blk_ext! [iblk, V, idx t0_0]

/-- The block of operand 8 at the one point is the gate's bias, as a 1 by 1 array. -/
theorem iblk8 (c : Dev nD) : iblk m c 8 t0_0 = one (m ((c : Thread nD τ).loc main_arg8)) := by
  blk_ext! [iblk, V, idx t0_0, one]

/-- The block of operand 9 at the one point is the output weights. -/
theorem iblk9 (c : Dev nD) : iblk m c 9 t0_0 = m ((c : Thread nD τ).loc main_arg9) := by
  blk_ext! [iblk, V, idx t0_0]

/-- The block of operand 10 at the one point is the output bias, as one row. -/
theorem iblk10 (c : Dev nD) : iblk m c 10 t0_0 = line (m ((c : Thread nD τ).loc main_arg10)) := by
  blk_ext! [iblk, V, idx t0_0, line]

/-- The result array after the run: the body's value of the arguments. -/
theorem final (c : Dev nD) : (dats m 0 c).arrAt 11 cfg0.N =
    body (row (m ((c : Thread nD τ).loc main_arg0))) (row (m ((c : Thread nD τ).loc main_arg2))) (m ((c : Thread nD τ).loc main_arg3))
      (m ((c : Thread nD τ).loc main_arg4)) (m ((c : Thread nD τ).loc main_arg11)) (m ((c : Thread nD τ).loc main_arg5))
      (col (m ((c : Thread nD τ).loc main_arg6))) (m ((c : Thread nD τ).loc main_arg7)) (one (m ((c : Thread nD τ).loc main_arg8))) (m ((c : Thread nD τ).loc main_arg9))
      (line (m ((c : Thread nD τ).loc main_arg10))) := by
  refine (dats m 0 c).arrAt_eq_of_after_last 11 t0_0 (by decide +kernel) _ fun j => ?_
  blk_simp
  rw [after0_11]
  frame_out
  rw [iblk0, iblk1, iblk2, iblk3, iblk4, iblk5, iblk6, iblk7, iblk8, iblk9, iblk10]
  rfl

end Cert.KernelIdeal.Run

end
-- ==== Proof.RefIndex.lean ====
/- The reference's gathers and accumulating scatters read at an index. -/
module

public import proofs.«01_k».proof.Proof.Gen.ReferenceIdeal.Run
public import Idealize.ShloMosaic.Lib.Pointwise
public import Idealize.ShloMosaic.Lib.Routing.OpsPair

@[expose] public section

set_option maxRecDepth 16384

noncomputable section

namespace Cert.ReferenceIdeal.Stages

open Cert.ReferenceIdeal Cert.ReferenceIdeal.Gen Idealize.ShloMosaic Idealize.ShloMosaic.TcCoe

/-- A small number, written as a 32-bit word and read signed, is itself. -/
theorem toInt_small (k : Nat) (h : k < 2 ^ 31) : (BitVec.ofNat 32 k).toInt = (k : Int) := by
  rw [BitVec.toInt_eq_toNat_cond, BitVec.toNat_ofNat]
  have : k % 2 ^ 32 = k := Nat.mod_eq_of_lt (by omega)
  rw [this]
  split <;> omega

/-- The gather of symbols: where the index word of node `n` is the number `k` of a symbol, the entry read is the one of symbol `k`. -/
theorem gather_symbol (x : FVec Ideal S64x16x256 .f32) (idx : IVec S10000x1 32) (g : Fin 64) (c : Fin 16) (n : Fin 10000) (k : Fin 256)
    (h : idx (ix2 n 0) = BitVec.ofNat 32 k.val) :
    Host.gather gather_S64x16x256_S10000x1_S64x16x10000_01_2_n_n_2_1_64161 x idx (ix3 g c n) = x (ix3 g c k) := by
  unfold Host.gather
  refine congrArg x (funext fun a => Fin.ext ?_)
  match a with
  | ⟨0, _⟩ => exact Nat.zero_add _
  | ⟨1, _⟩ => exact Nat.zero_add _
  | ⟨2, _⟩ =>
    have e : gather_S64x16x256_S10000x1_S64x16x10000_01_2_n_n_2_1_64161.siIdx (ix3 g c n) ⟨0, by decide⟩ = ix2 n 0 := by
      funext b
      match b with
      | ⟨0, _⟩ => rfl
      | ⟨1, _⟩ => rfl
    show min (idx (gather_S64x16x256_S10000x1_S64x16x10000_01_2_n_n_2_1_64161.siIdx (ix3 g c n) ⟨0, _⟩)).toInt.toNat (256 - 1) = k.val
    rw [e, h, toInt_small _ (by omega)]
    have := k.isLt
    omega

/-- The gather of a value per graph: where the index word of node `n` is the number `k` of a graph, the entry read is graph `k`'s. -/
theorem gather_graph (x : FVec Ideal S64x1 .f32) (idx : IVec S10000x1 32) (n : Fin 10000) (k : Fin 64)
    (h : idx (ix2 n 0) = BitVec.ofNat 32 k.val) :
    Host.gather gather_S64x1_S10000x1_S10000x1_1_0_n_n_0_1_11 x idx (ix2 n 0) = x (ix2 k 0) := by
  unfold Host.gather
  refine congrArg x (funext fun a => Fin.ext ?_)
  match a with
  | ⟨0, _⟩ =>
    have e : gather_S64x1_S10000x1_S10000x1_1_0_n_n_0_1_11.siIdx (ix2 n 0) ⟨0, by decide⟩ = ix2 n 0 := by
      funext b
      match b with
      | ⟨0, _⟩ => rfl
      | ⟨1, _⟩ => rfl
    show min (idx (gather_S64x1_S10000x1_S10000x1_1_0_n_n_0_1_11.siIdx (ix2 n 0) ⟨0, _⟩)).toInt.toNat (64 - 1) = k.val
    rw [e, h, toInt_small _ (by omega)]
    have := k.isLt
    omega
  | ⟨1, _⟩ => rfl

/-- Where an update of the scatter of a value per node lands: at the graph that its node's index word numbers. -/
theorem lands_one (idx : IVec S10000x1 32) (n : Fin 10000) (b : Fin 64) :
    scatter_S64x1_S10000x1_S10000x1_1_0_0_1.resultIdx? (ix2 n 0) idx = some (ix2 b 0) ↔ (idx (ix2 n 0)).toInt = (b.val : Int) := by
  rw [Routing.resultIdx?_eq_some]
  have e : scatter_S64x1_S10000x1_S10000x1_1_0_0_1.siIdx (ix2 n 0) ⟨0, by decide⟩ = ix2 n 0 := by
    funext b
    match b with
    | ⟨0, _⟩ => rfl
    | ⟨1, _⟩ => rfl
  constructor
  · intro h
    have h0 := h 0
    change (idx (scatter_S64x1_S10000x1_S10000x1_1_0_0_1.siIdx (ix2 n 0) ⟨0, _⟩)).toInt + ((0 : Nat) : Int) = (b.val : Int) at h0
    rw [e] at h0
    simpa using h0
  · intro h a
    match a with
    | ⟨0, _⟩ =>
      change (idx (scatter_S64x1_S10000x1_S10000x1_1_0_0_1.siIdx (ix2 n 0) ⟨0, _⟩)).toInt + ((0 : Nat) : Int) = (b.val : Int)
      rw [e]
      simpa using h
    | ⟨1, _⟩ => rfl

/-- Where an update of the scatter of a row per node lands: in its own column, at the graph that its node's index word numbers. -/
theorem lands_row (idx : IVec S10000x1 32) (n : Fin 10000) (q : Fin 2016) (b : Fin 64) (p : Fin 2016) :
    scatter_S64x2016_S10000x1_S10000x2016_1_0_0_1.resultIdx? (ix2 n q) idx = some (ix2 b p) ↔ (idx (ix2 n 0)).toInt = (b.val : Int) ∧ q = p := by
  rw [Routing.resultIdx?_eq_some]
  have e : scatter_S64x2016_S10000x1_S10000x2016_1_0_0_1.siIdx (ix2 n q) ⟨0, by decide⟩ = ix2 n 0 := by
    funext b
    match b with
    | ⟨0, _⟩ => rfl
    | ⟨1, _⟩ => rfl
  constructor
  · intro h
    have h0 := h 0
    have h1 := h 1
    change (idx (scatter_S64x2016_S10000x1_S10000x2016_1_0_0_1.siIdx (ix2 n q) ⟨0, _⟩)).toInt + ((0 : Nat) : Int) = (b.val : Int) at h0
    change (0 : Int) + ((q.val : Nat) : Int) = (p.val : Int) at h1
    rw [e] at h0
    exact ⟨by simpa using h0, Fin.ext (by omega)⟩
  · rintro ⟨h, rfl⟩ a
    match a with
    | ⟨0, _⟩ =>
      change (idx (scatter_S64x2016_S10000x1_S10000x2016_1_0_0_1.siIdx (ix2 n q) ⟨0, _⟩)).toInt + ((0 : Nat) : Int) = (b.val : Int)
      rw [e]
      simpa using h
    | ⟨1, _⟩ =>
      change (0 : Int) + ((q.val : Nat) : Int) = (q.val : Int)
      omega

/-- The scatter of a value per node into zeros: at a graph, the sum over the nodes whose index word numbers it. -/
theorem scatter_one (x : FVec Ideal S64x1 .f32) (idx : IVec S10000x1 32) (u : FVec Ideal S10000x1 .f32) (b : Fin 64) (hx : x (ix2 b 0) = (0 : EReal)) :
    Host.scatterAdd scatter_S64x1_S10000x1_S10000x1_1_0_0_1 x idx u (ix2 b 0)
      = ∑ n : Fin 10000, if (idx (ix2 n 0)).toInt = (b.val : Int) then (u (ix2 n 0) : EReal) else 0 := by
  show (x (ix2 b 0) : EReal) + ∑ j ∈ Finset.univ.filter (fun j => scatter_S64x1_S10000x1_S10000x1_1_0_0_1.resultIdx? j idx = some (ix2 b 0)), (u j : EReal) = _
  rw [hx, zero_add, Finset.sum_filter, sum_idx2]
  refine Finset.sum_congr rfl fun n _ => ?_
  rw [Fin.sum_univ_one]
  exact if_congr (lands_one idx n b) rfl rfl

/-- The scatter of a row per node into zeros: at a graph and a column, the sum over the nodes whose index word numbers the graph. -/
theorem scatter_row (x : FVec Ideal S64x2016 .f32) (idx : IVec S10000x1 32) (u : FVec Ideal S10000x2016 .f32) (b : Fin 64) (p : Fin 2016)
    (hx : x (ix2 b p) = (0 : EReal)) :
    Host.scatterAdd scatter_S64x2016_S10000x1_S10000x2016_1_0_0_1 x idx u (ix2 b p)
      = ∑ n : Fin 10000, if (idx (ix2 n 0)).toInt = (b.val : Int) then (u (ix2 n p) : EReal) else 0 := by
  show (x (ix2 b p) : EReal) + ∑ j ∈ Finset.univ.filter (fun j => scatter_S64x2016_S10000x1_S10000x2016_1_0_0_1.resultIdx? j idx = some (ix2 b p)), (u j : EReal) = _
  rw [hx, zero_add, Finset.sum_filter, sum_idx2]
  refine Finset.sum_congr rfl fun n _ => ?_
  rw [Finset.sum_eq_single p]
  · exact if_congr ((lands_row idx n p b p).trans (and_iff_left rfl)) rfl rfl
  · intro q _ hq
    exact if_neg fun h => hq ((lands_row idx n q b p).1 h).2
  · exact fun h => absurd (Finset.mem_univ p) h

end Cert.ReferenceIdeal.Stages

end
-- ==== Proof.RefStages.lean ====
module

public import proofs.«01_k».proof.Proof.Gen.ReferenceIdeal.Run
public import Idealize.ShloMosaic.Lib.Pointwise

@[expose] public section

set_option maxRecDepth 16384

noncomputable section

namespace Cert.ReferenceIdeal.Stages

open Cert.ReferenceIdeal Cert.ReferenceIdeal.Gen Idealize.ShloMosaic Idealize.ShloMosaic.TcCoe

/-- The logarithms of the prior's softmax along the states. -/
def logp (prior : FVec Ideal S64x16 .f32) : FVec Ideal S64x16 .f32 :=
  let top := maximumf (broadcastInDim S64 ![] bcast_S_S64 (constant S_ .f32 0xFF800000#32))
    (Host.reduce FloatOps.maximumf prior (constant S_ .f32 0xFF800000#32) reducesTo_S64x16_S64_d1 h_S_)
  let shifted := subf prior (broadcastInDim S64x16 ![0, 1] bcast_S64x1_S64x16_0_1 (broadcastInDim S64x1 ![0] bcast_S64_S64x1_0 top))
  subf shifted (broadcastInDim S64x16 ![0, 1] bcast_S64x1_S64x16_0_1 (Host.log (broadcastInDim S64x1 ![0] bcast_S64_S64x1_0
    (Host.reduceAdd (Host.exp shifted) (constant S_ .f32 0x00000000#32) reducesTo_S64x16_S64_d1 h_S_))))

/-- The logarithms of the emission table's softmax along the symbols. -/
def loge (emission : FVec Ideal S64x16x256 .f32) : FVec Ideal S64x16x256 .f32 :=
  let top := maximumf (broadcastInDim S64x16 ![] bcast_S_S64x16 (constant S_ .f32 0xFF800000#32))
    (Host.reduce FloatOps.maximumf emission (constant S_ .f32 0xFF800000#32) reducesTo_S64x16x256_S64x16_d2 h_S_)
  let shifted := subf emission (broadcastInDim S64x16x256 ![0, 1, 2] bcast_S64x16x1_S64x16x256_0_1_2
    (broadcastInDim S64x16x1 ![0, 1] bcast_S64x16_S64x16x1_0_1 top))
  subf shifted (broadcastInDim S64x16x256 ![0, 1, 2] bcast_S64x16x1_S64x16x256_0_1_2 (Host.log (broadcastInDim S64x16x1 ![0, 1] bcast_S64x16_S64x16x1_0_1
    (Host.reduceAdd (Host.exp shifted) (constant S_ .f32 0x00000000#32) reducesTo_S64x16x256_S64x16_d2 h_S_))))

/-- The index words of a gather along an axis of extent `n`: a negative word counts from the end. -/
def wrapped (n : BitVec 32) (x : IVec S10000 32) : IVec S10000x1 32 :=
  broadcastInDim S10000x1 ![0] bcast_S10000_S10000x1_0
    (select (cmpi .slt x (broadcastInDim S10000 ![] bcast_S_S10000 (constantI S_ 32 0#32)))
      (addi x (broadcastInDim S10000 ![] bcast_S_S10000 (constantI S_ 32 n))) x)

/-- Per generative model, state and node: the log-probability of the state with the node's symbol. -/
def joint (lp : FVec Ideal S64x16 .f32) (le : FVec Ideal S64x16x256 .f32) (x : IVec S10000 32) : FVec Ideal S64x16x10000 .f32 :=
  addf (broadcastInDim S64x16x10000 ![0, 1, 2] bcast_S64x16x1_S64x16x10000_0_1_2 (broadcastInDim S64x16x1 ![0, 1] bcast_S64x16_S64x16x1_0_1 lp))
    (Host.gather gather_S64x16x256_S10000x1_S64x16x10000_01_2_n_n_2_1_64161 le (wrapped 256#32 x))

/-- The log of the sum of exponentials along the states, the maximum taken out first. -/
def ll (j : FVec Ideal S64x16x10000 .f32) : FVec Ideal S64x10000 .f32 :=
  let top := Host.reduce FloatOps.maximumf j (constant S_ .f32 0xFF800000#32) reducesTo_S64x16x10000_S64x10000_d1 h_S_
  addf (Host.log (Host.reduceAdd (Host.exp (subf j (broadcastInDim S64x16x10000 ![0, 1, 2] bcast_S64x1x10000_S64x16x10000_0_1_2
    (broadcastInDim S64x1x10000 ![0, 2] bcast_S64x10000_S64x1x10000_0_2 top)))) (constant S_ .f32 0x00000000#32)
      reducesTo_S64x16x10000_S64x10000_d1 h_S_)) top

/-- The contrastive neurons of each node. -/
def ci (l : FVec Ideal S64x10000 .f32) (contrastive : FVec Ideal S64x2016 .f32) : FVec Ideal S10000x2016 .f32 :=
  shapeCast S10000x2016 (Host.tanh (Host.dotGeneral dot_S10000x1x64_S64x2016_S10000x1x2016_2_0_01_1_n_n none
    (broadcastInDim S10000x1x64 ![0, 2] bcast_S10000x64_S10000x1x64_0_2 (transpose S10000x64 [1, 0] l transposes_S64x10000_S10000x64_1_0)) contrastive))
    shapeCasts_S10000x1x2016_S10000x2016

/-- The gate of each node. -/
def gate (c : FVec Ideal S10000x2016 .f32) (ghW : FVec Ideal S2016x128 .f32) (ghb : FVec Ideal S128 .f32) (goW : FVec Ideal S128x1 .f32)
    (gob : FVec Ideal S1 .f32) : FVec Ideal S10000x1 .f32 :=
  addf (Host.dotGeneral dot_S10000x128_S128x1_S10000x1_1_0_0_1_n_n none
    (Host.tanh (addf (Host.dotGeneral dot_S10000x2016_S2016x128_S10000x128_1_0_0_1_n_n none c ghW)
      (broadcastInDim S10000x128 ![0, 1] bcast_S1x128_S10000x128_0_1 (broadcastInDim S1x128 ![1] bcast_S128_S1x128_1 ghb)))) goW)
    (broadcastInDim S10000x1 ![0, 1] bcast_S1x1_S10000x1_0_1 (broadcastInDim S1x1 ![1] bcast_S1_S1x1_1 gob))

/-- The greatest gate among each graph's nodes. -/
def gmax (g : FVec Ideal S10000x1 .f32) (batch : IVec S10000 32) : FVec Ideal S64x1 .f32 :=
  broadcastInDim S64x1 ![0] bcast_S64_S64x1_0 (Host.reduce FloatOps.maximumf
    (select (cmpi .eq (broadcastInDim S64x10000 ![0, 1] bcast_S1x10000_S64x10000_0_1 (broadcastInDim S1x10000 ![1] bcast_S10000_S1x10000_1 batch))
        (broadcastInDim S64x10000 ![0, 1] bcast_S64x1_S64x10000_0_1 (broadcastInDim S64x1 ![0] bcast_S64_S64x1_0 (iotaInDim S64 32 0))))
      (broadcastInDim S64x10000 ![0, 1] bcast_S1x10000_S64x10000_0_1 (broadcastInDim S1x10000 ![1] bcast_S10000_S1x10000_1
        (shapeCast S10000 g shapeCasts_S10000x1_S10000)))
      (broadcastInDim S64x10000 ![] bcast_S_S64x10000 (constant S_ .f32 0xFF800000#32)))
    (constant S_ .f32 0xFF800000#32) reducesTo_S64x10000_S64_d1 h_S_)

/-- A value per graph read at each node's graph. -/
def atGraph (v : FVec Ideal S64x1 .f32) (batch : IVec S10000 32) : FVec Ideal S10000x1 .f32 :=
  Host.gather gather_S64x1_S10000x1_S10000x1_1_0_n_n_0_1_11 v (wrapped 64#32 batch)

/-- The exponential of each node's gate below its graph's greatest. -/
def weight (g : FVec Ideal S10000x1 .f32) (top : FVec Ideal S64x1 .f32) (batch : IVec S10000 32) : FVec Ideal S10000x1 .f32 :=
  Host.exp (subf g (atGraph top batch))

/-- The index words of a scatter. -/
def words (batch : IVec S10000 32) : IVec S10000x1 32 := broadcastInDim S10000x1 ![0] bcast_S10000_S10000x1_0 batch

/-- The sum of the weights of each graph. -/
def denom (e : FVec Ideal S10000x1 .f32) (batch : IVec S10000 32) : FVec Ideal S64x1 .f32 :=
  Host.scatterAdd scatter_S64x1_S10000x1_S10000x1_1_0_0_1 (broadcastInDim S64x1 ![] bcast_S_S64x1 (constant S_ .f32 0x00000000#32)) (words batch) e

/-- Each node's attention. -/
def attn (e : FVec Ideal S10000x1 .f32) (den : FVec Ideal S64x1 .f32) (batch : IVec S10000 32) : FVec Ideal S10000x1 .f32 :=
  Host.divf e (addf (atGraph den batch) (broadcastInDim S10000x1 ![] bcast_S_S10000x1 (constant S_ .f32 0x24E69595#32)))

/-- The attention-weighted sum of the neurons of each graph. -/
def pooled (a : FVec Ideal S10000x1 .f32) (c : FVec Ideal S10000x2016 .f32) (batch : IVec S10000 32) : FVec Ideal S64x2016 .f32 :=
  Host.scatterAdd scatter_S64x2016_S10000x1_S10000x2016_1_0_0_1 (broadcastInDim S64x2016 ![] bcast_S_S64x2016 (constant S_ .f32 0x00000000#32)) (words batch)
    (mulf (broadcastInDim S10000x2016 ![0, 1] bcast_S10000x1_S10000x2016_0_1 a) c)

/-- The output layer. -/
def out (r : FVec Ideal S64x2016 .f32) (outW : FVec Ideal S2016x128 .f32) (outb : FVec Ideal S128 .f32) : FVec Ideal S64x128 .f32 :=
  addf (Host.dotGeneral dot_S64x2016_S2016x128_S64x128_1_0_0_1_n_n none r outW)
    (broadcastInDim S64x128 ![0, 1] bcast_S1x128_S64x128_0_1 (broadcastInDim S1x128 ![1] bcast_S128_S1x128_1 outb))

/-- The neurons, from the arguments. -/
def neurons (x : IVec S10000 32) (prior : FVec Ideal S64x16 .f32) (emission : FVec Ideal S64x16x256 .f32) (contrastive : FVec Ideal S64x2016 .f32) :
    FVec Ideal S10000x2016 .f32 :=
  ci (ll (joint (logp prior) (loge emission) x)) contrastive

/-- The weights, from the gates. -/
def weights (g : FVec Ideal S10000x1 .f32) (batch : IVec S10000 32) : FVec Ideal S10000x1 .f32 := weight g (gmax g batch) batch

/-- The reference's result, from the neurons and the gates. -/
def pool (c : FVec Ideal S10000x2016 .f32) (g : FVec Ideal S10000x1 .f32) (batch : IVec S10000 32)
    (outW : FVec Ideal S2016x128 .f32) (outb : FVec Ideal S128 .f32) : FVec Ideal S64x128 .f32 :=
  out (pooled (attn (weights g batch) (denom (weights g batch) batch) batch) c batch) outW outb

open Idealize.SL.Sem in
set_option maxHeartbeats 4000000 in
/-- The reference run's result is the stages applied in turn to the arguments. -/
theorem res_eq (m : (ℓ : Loc nD τ sig) → Buf (Elt Ideal) ℓ) (c : Dev nD) :
    Value.res_out0 (F := Ideal) m c =
      pool (neurons (m ((c.tc : Thread nD τ).loc main_arg0)) (m ((c.tc : Thread nD τ).loc main_arg3)) (m ((c.tc : Thread nD τ).loc main_arg4))
          (m ((c.tc : Thread nD τ).loc main_arg11)))
        (gate (neurons (m ((c.tc : Thread nD τ).loc main_arg0)) (m ((c.tc : Thread nD τ).loc main_arg3)) (m ((c.tc : Thread nD τ).loc main_arg4))
          (m ((c.tc : Thread nD τ).loc main_arg11))) (m ((c.tc : Thread nD τ).loc main_arg5)) (m ((c.tc : Thread nD τ).loc main_arg6))
          (m ((c.tc : Thread nD τ).loc main_arg7)) (m ((c.tc : Thread nD τ).loc main_arg8)))
        (m ((c.tc : Thread nD τ).loc main_arg2)) (m ((c.tc : Thread nD τ).loc main_arg9)) (m ((c.tc : Thread nD τ).loc main_arg10)) := by
  unfold Value.res_out0 Value.res_main_v75
  rfl

end Cert.ReferenceIdeal.Stages

end
-- ==== Proof.RefValue.lean ====
/- The reference's stages read at an index: the two log-softmaxes, the log-sum-exp, the neurons, the gates, the pooling. -/
module

public import proofs.«01_k».proof.Proof.RefIndex
public import proofs.«01_k».proof.Proof.RefStages
public import proofs.«01_k».proof.Proof.Pool
public import Idealize.ShloMosaic.Lib.WordCmp

@[expose] public section

set_option maxRecDepth 16384

noncomputable section

namespace Cert.ReferenceIdeal.Stages

open Cert.ReferenceIdeal Cert.ReferenceIdeal.Gen Idealize.ShloMosaic Idealize.ShloMosaic.TcCoe

/-- The pattern 0xFF800000 is minus infinity. -/
theorem low_eq : Ideal.ofBits FTy.f32 4286578688#32 = (⊥ : EReal) := by simp [Ideal.ofBits, Ideal.ieee]

/-- The prior's log-softmax. -/
theorem logp_apply (v : FVec Ideal S64x16 .f32) (g : Fin 64) (c : Fin 16) :
    logp v (ix2 g c) = Pure.logSoft (fun c => (v (ix2 g c) : EReal)) c := by
  pointwise [logp]
  simp only [low_eq, bot_le, max_eq_right]
  rfl

/-- The emission table's log-softmax. -/
theorem loge_apply (v : FVec Ideal S64x16x256 .f32) (g : Fin 64) (c : Fin 16) (q : Fin 256) :
    loge v (ix3 g c q) = Pure.logSoft (fun q => (v (ix3 g c q) : EReal)) q := by
  pointwise [loge]
  simp only [low_eq, bot_le, max_eq_right]
  rfl

/-- A word below the sign bit is not wrapped. -/
theorem wrapped_apply (k : BitVec 32) (x : IVec S10000 32) (n : Fin 10000) (j : Nat) (hj : j < 2 ^ 31) (hx : x (ix1 n) = BitVec.ofNat 32 j) :
    wrapped k x (ix2 n 0) = BitVec.ofNat 32 j := by
  pointwise [wrapped]
  rw [hx]
  refine Routing.wrap_of_lt _ _ ?_
  rw [BitVec.toNat_ofNat]
  omega

/-- A state's joint log-probability with a node's symbol. -/
theorem joint_apply (lp : FVec Ideal S64x16 .f32) (le : FVec Ideal S64x16x256 .f32) (x : IVec S10000 32) (g : Fin 64) (c : Fin 16) (n : Fin 10000) (k : Fin 256)
    (hx : x (ix1 n) = BitVec.ofNat 32 k.val) : joint lp le x (ix3 g c n) = lp (ix2 g c) + le (ix3 g c k) := by
  rw [← gather_symbol le (wrapped 256#32 x) g c n k (wrapped_apply _ _ _ _ (by omega) hx)]
  pointwise [joint]

/-- The log-likelihood of a node under a generative model. -/
theorem ll_apply (v : FVec Ideal S64x16x10000 .f32) (g : Fin 64) (n : Fin 10000) : ll v (ix2 g n) = Pure.logSum fun c : Fin 16 => (v (ix3 g c n) : EReal) := by
  pointwise [ll]
  simp only [low_eq]
  rfl

/-- The neurons of a node. -/
theorem ci_apply (v : FVec Ideal S64x10000 .f32) (w : FVec Ideal S64x2016 .f32) (p : Fin 2016) (n : Fin 10000) :
    ci v w (ix2 n p) = Ideal.tanh (∑ g : Fin 64, (v (ix2 g n) : EReal) * w (ix2 g p)) := by
  pointwise [ci]

/-- The gate of a node. -/
theorem gate_apply (c : FVec Ideal S10000x2016 .f32) (ghW : FVec Ideal S2016x128 .f32) (ghb : FVec Ideal S128 .f32) (goW : FVec Ideal S128x1 .f32)
    (gob : FVec Ideal S1 .f32) (n : Fin 10000) : gate c ghW ghb goW gob (ix2 n 0)
      = (∑ h : Fin 128, Ideal.tanh ((∑ p : Fin 2016, (c (ix2 n p) : EReal) * ghW (ix2 p h)) + ghb (ix1 h)) * goW (ix2 h 0)) + gob (ix1 0) := by
  pointwise [gate]

/-- The greatest gate of a graph's nodes. -/
theorem gmax_apply (g : FVec Ideal S10000x1 .f32) (batch : IVec S10000 32) (b : Fin 64) :
    gmax g batch (ix2 b 0) = Pure.top fun n : Fin 10000 => if batch (ix1 n) = BitVec.ofNat 32 b.val then (g (ix2 n 0) : EReal) else ⊥ := by
  pointwise [gmax]
  simp only [low_eq, WordCmp.cmpi_eq_eq, WordCmp.select_decide]
  rfl

/-- A value per graph, at a node of the graph. -/
theorem atGraph_apply (v : FVec Ideal S64x1 .f32) (batch : IVec S10000 32) (n : Fin 10000) (b : Fin 64) (hb : batch (ix1 n) = BitVec.ofNat 32 b.val) :
    atGraph v batch (ix2 n 0) = v (ix2 b 0) :=
  gather_graph v _ n b (wrapped_apply _ _ _ _ (by omega) hb)

/-- A node's weight, the node being of graph `b`. -/
theorem weight_apply (g : FVec Ideal S10000x1 .f32) (t : FVec Ideal S64x1 .f32) (batch : IVec S10000 32) (n : Fin 10000) (b : Fin 64)
    (hb : batch (ix1 n) = BitVec.ofNat 32 b.val) : weight g t batch (ix2 n 0) = Ideal.exp ((g (ix2 n 0) : EReal) - t (ix2 b 0)) := by
  rw [← atGraph_apply t batch n b hb]
  pointwise [weight]

/-- A node's scatter word names graph `b` exactly when the node is of it. -/
theorem words_apply (batch : IVec S10000 32) (n : Fin 10000) (b : Fin 64) : (words batch (ix2 n 0)).toInt = (b.val : Int) ↔ batch (ix1 n) = BitVec.ofNat 32 b.val := by
  have h : words batch (ix2 n 0) = batch (ix1 n) := by pointwise [words]
  rw [h, ← toInt_small b.val (by omega)]
  exact BitVec.toInt_inj

/-- The sum of a graph's weights. -/
theorem denom_apply (e : FVec Ideal S10000x1 .f32) (batch : IVec S10000 32) (b : Fin 64) :
    denom e batch (ix2 b 0) = ∑ n : Fin 10000, if batch (ix1 n) = BitVec.ofNat 32 b.val then (e (ix2 n 0) : EReal) else 0 := by
  unfold denom
  rw [scatter_one _ _ _ _ (by pointwise)]
  simp only [words_apply]

/-- A node's attention, the node being of graph `b`. -/
theorem attn_apply (e : FVec Ideal S10000x1 .f32) (den : FVec Ideal S64x1 .f32) (batch : IVec S10000 32) (n : Fin 10000) (b : Fin 64)
    (hb : batch (ix1 n) = BitVec.ofNat 32 b.val) :
    attn e den batch (ix2 n 0) = Ideal.div (e (ix2 n 0)) ((den (ix2 b 0) : EReal) + Ideal.ofBits FTy.f32 619091349#32) := by
  rw [← atGraph_apply den batch n b hb]
  pointwise [attn]

/-- The pooled neurons of a graph. -/
theorem pooled_apply (a : FVec Ideal S10000x1 .f32) (c : FVec Ideal S10000x2016 .f32) (batch : IVec S10000 32) (b : Fin 64) (p : Fin 2016) :
    pooled a c batch (ix2 b p) = ∑ n : Fin 10000, if batch (ix1 n) = BitVec.ofNat 32 b.val then (a (ix2 n 0) : EReal) * c (ix2 n p) else 0 := by
  unfold pooled
  rw [scatter_row _ _ _ _ _ (by pointwise)]
  simp only [words_apply]
  refine Finset.sum_congr rfl fun n _ => ?_
  have h : (mulf (broadcastInDim S10000x2016 ![0, 1] bcast_S10000x1_S10000x2016_0_1 a) c) (ix2 n p) = (a (ix2 n 0) : EReal) * c (ix2 n p) := by pointwise
  rw [h]

/-- The output layer. -/
theorem out_apply (r : FVec Ideal S64x2016 .f32) (outW : FVec Ideal S2016x128 .f32) (outb : FVec Ideal S128 .f32) (b : Fin 64) (f : Fin 128) :
    out r outW outb (ix2 b f) = (∑ p : Fin 2016, (r (ix2 b p) : EReal) * outW (ix2 p f)) + outb (ix1 f) := by
  pointwise [out]

end Cert.ReferenceIdeal.Stages

end
-- ==== Proof.Equation.lean ====
/- The kernel's value and the reference's, of the same arguments, are equal at every index: the neurons of a node are its symbol's
   column of the kernel's table, its gate is the symbol's, and the pooling over a graph's nodes is the pooling over the symbols. -/
module

public import proofs.«01_k».proof.Proof.KTables
public import proofs.«01_k».proof.Proof.KernelRun
public import proofs.«01_k».proof.Proof.RefValue

@[expose] public section

set_option maxRecDepth 16384

noncomputable section

namespace Cert.Equation

open Cert.KernelIdeal Cert.KernelIdeal.Gen Cert.KernelIdeal.Tables Cert.KernelIdeal.Run Idealize.ShloMosaic
open Cert.ReferenceIdeal.Stages

/-- The small constant added to the denominators is a positive real. -/
theorem eps_pos : ∃ ε : ℝ, 0 < ε ∧ Ideal.ofBits FTy.f32 619091349#32 = (ε : EReal) := by
  refine ⟨15111573 * (2 : ℝ) ^ (-77 : Int), by positivity, ?_⟩
  show Ideal.ieee 8 23 619091349#32 = _
  unfold Ideal.ieee
  dsimp only
  rw [show ((619091349#32).extractLsb' 23 8).toNat = 73 by decide, show ((619091349#32).extractLsb' 0 23).toNat = 6722965 by decide,
    show ((619091349#32).extractLsb' (8 + 23) 1 == 1#1) = false by decide]
  norm_num

/-- The hyperbolic tangent of any extended real is a real. -/
theorem tanh_real (x : EReal) : ∃ r : ℝ, Ideal.tanh x = r := by
  induction x using EReal.rec with
  | bot => exact ⟨-1, by rw [Ideal.tanh_bot]; rfl⟩
  | top => exact ⟨1, by rw [Ideal.tanh_top]; rfl⟩
  | coe r => exact ⟨_, Ideal.tanh_coe r⟩

variable (x bt : Vec Ideal S10000 .i32) (prior : Vec Ideal S64x16 .f32) (emission : Vec Ideal S64x16x256 .f32) (contrastive : Vec Ideal S64x2016 .f32)
  (ghW : Vec Ideal S2016x128 .f32) (ghb : Vec Ideal S128 .f32) (goW : Vec Ideal S128x1 .f32) (gob : Vec Ideal S1 .f32) (outW : Vec Ideal S2016x128 .f32)
  (outb : Vec Ideal S128 .f32) (X : Fin 10000 → Fin 256)

/-- The kernel's neurons' table. -/
def table (p : Fin 2016) (q : Fin 256) : EReal := k0_pay2 (F := Ideal) prior emission contrastive (ix2 p q)

/-- The gate of a symbol. -/
def symbolGate (q : Fin 256) : EReal :=
  (∑ h : Fin 128, Ideal.tanh ((∑ p : Fin 2016, (ghW (ix2 p h) : EReal) * table prior emission contrastive p q) + ghb (ix1 h)) * goW (ix2 h 0)) + gob (ix1 0)

/-- The gate the kernel computes for a symbol, from the arguments. -/
theorem gateOf_eq (q : Fin 256) : gateOf (k0_pay4 (F := Ideal) prior emission contrastive ghW) (k0_pay5 (F := Ideal) (col ghb)) goW (one gob) q
    = symbolGate prior emission contrastive ghW ghb goW gob q := by
  unfold gateOf symbolGate table
  simp only [pay4_apply, pay5_apply, col_apply, one_apply]

/-- The kernel's value at an index. -/
theorem body_apply (hX : ∀ n, x (ix1 n) = BitVec.ofNat 32 (X n).val) (b : Fin 64) (f : Fin 128) :
    body (row x) (row bt) prior emission contrastive ghW (col ghb) goW (one gob) outW (line outb) (ix2 b f) =
      Ideal.div (∑ q, (if 0 < Pure.count (fun n => bt (ix1 n) = BitVec.ofNat 32 b.val) X q then Ideal.exp (symbolGate prior emission contrastive ghW ghb goW gob q
            - Pure.topGate (fun n => bt (ix1 n) = BitVec.ofNat 32 b.val) X (symbolGate prior emission contrastive ghW ghb goW gob)) else 0)
          * Pure.count (fun n => bt (ix1 n) = BitVec.ofNat 32 b.val) X q * ∑ p, (outW (ix2 p f) : EReal) * table prior emission contrastive p q)
        ((∑ q, (if 0 < Pure.count (fun n => bt (ix1 n) = BitVec.ofNat 32 b.val) X q then Ideal.exp (symbolGate prior emission contrastive ghW ghb goW gob q
            - Pure.topGate (fun n => bt (ix1 n) = BitVec.ofNat 32 b.val) X (symbolGate prior emission contrastive ghW ghb goW gob)) else 0)
          * Pure.count (fun n => bt (ix1 n) = BitVec.ofNat 32 b.val) X q) + Ideal.ofBits FTy.f32 619091349#32) + outb (ix1 f) := by
  have h7 : ∀ q, k0_pay7 (F := Ideal) (row x) (row bt) (ix2 b q) = Pure.count (fun n => bt (ix1 n) = BitVec.ofNat 32 b.val) X q := fun q => by
    rw [pay7_apply (row x) (row bt) X (fun n => by rw [row_apply, hX])]
    simp only [row_apply]
  unfold body
  rw [pay1_apply, line_apply]
  simp only [pay8_apply, pay9_apply, gateOf_eq, h7, pay6_apply, WordCmp.select_decide]
  rfl

/-- The neurons of a node are its symbol's column of the table. -/
theorem neurons_apply (hX : ∀ n, x (ix1 n) = BitVec.ofNat 32 (X n).val) (hem : ∀ i, ∃ r : ℝ, emission i = (r : EReal)) (n : Fin 10000) (p : Fin 2016) :
    neurons x prior emission contrastive (ix2 n p) = table prior emission contrastive p (X n) := by
  unfold neurons table
  rw [ci_apply, pay2_apply]
  congr 1
  refine Finset.sum_congr rfl fun g _ => ?_
  rw [mul_comm, ll_apply, Pure.table_eq (fun c => (prior (ix2 g c) : EReal)) (fun c q => (emission (ix3 g c q) : EReal)) (fun c q => hem _) (X n)]
  congr 2
  funext c
  rw [joint_apply _ _ _ _ _ _ _ (hX n), logp_apply, loge_apply]

/-- The gate of a node is its symbol's. -/
theorem nodeGate_apply (hX : ∀ n, x (ix1 n) = BitVec.ofNat 32 (X n).val) (hem : ∀ i, ∃ r : ℝ, emission i = (r : EReal)) (n : Fin 10000) :
    gate (neurons x prior emission contrastive) ghW ghb goW gob (ix2 n 0) = symbolGate prior emission contrastive ghW ghb goW gob (X n) := by
  rw [gate_apply]
  unfold symbolGate
  simp only [neurons_apply x prior emission contrastive X hX hem, mul_comm (table _ _ _ _ _)]

/-- The kernel's value is the reference's at every index. -/
theorem body_eq_pool (hX : ∀ n, x (ix1 n) = BitVec.ofNat 32 (X n).val) (hem : ∀ i, ∃ r : ℝ, emission i = (r : EReal))
    (how : ∀ i, ∃ r : ℝ, outW i = (r : EReal)) (b : Fin 64) (f : Fin 128) :
    body (row x) (row bt) prior emission contrastive ghW (col ghb) goW (one gob) outW (line outb) (ix2 b f) =
      Cert.ReferenceIdeal.Stages.pool (neurons x prior emission contrastive) (gate (neurons x prior emission contrastive) ghW ghb goW gob) bt outW outb (ix2 b f) := by
  obtain ⟨ε, hε, he⟩ := eps_pos
  choose t ht using fun (p : Fin 2016) (q : Fin 256) => (show ∃ r : ℝ, table prior emission contrastive p q = r by
    unfold table; rw [pay2_apply]; exact tanh_real _)
  choose w hw using fun p : Fin 2016 => how (ix2 p f)
  rw [body_apply x bt prior emission contrastive ghW ghb goW gob outW outb X hX b f, he]
  unfold Cert.ReferenceIdeal.Stages.pool
  rw [out_apply]
  congr 1
  have hg := nodeGate_apply x prior emission contrastive ghW ghb goW gob X hX hem
  have hn := neurons_apply x prior emission contrastive X hX hem
  generalize hγ : symbolGate prior emission contrastive ghW ghb goW gob = γ at hg ⊢
  generalize gate (neurons x prior emission contrastive) ghW ghb goW gob = g at hg ⊢
  generalize neurons x prior emission contrastive = c at hn ⊢
  have hmax : gmax g bt (ix2 b 0) = Pure.topGate (fun n => bt (ix1 n) = BitVec.ofNat 32 b.val) X γ := by
    rw [gmax_apply]
    simp only [hg]
    exact (Pure.top_present _ X γ).symm
  have hwt : ∀ n, bt (ix1 n) = BitVec.ofNat 32 b.val → weights g bt (ix2 n 0)
      = Ideal.exp (γ (X n) - Pure.topGate (fun n => bt (ix1 n) = BitVec.ofNat 32 b.val) X γ) := fun n h => by
    unfold weights
    rw [weight_apply _ _ _ _ _ h, hmax, hg]
  simp only [ht, hw]
  rw [Pure.pool_eq (fun n => bt (ix1 n) = BitVec.ofNat 32 b.val) X γ t w ε hε (fun n => weights g bt (ix2 n 0))
    (fun _ => denom (weights g bt) bt (ix2 b 0)) hwt (fun _ _ => denom_apply _ _ _)]
  refine Finset.sum_congr rfl fun p _ => ?_
  rw [pooled_apply]
  refine congrArg (fun z : EReal => z * (w p : EReal)) (Finset.sum_congr rfl fun n _ => ?_)
  by_cases h : bt (ix1 n) = BitVec.ofNat 32 b.val
  · rw [if_pos h, if_pos h, attn_apply _ _ _ _ _ h, he, hn, ht]
  · rw [if_neg h, if_neg h]

end Cert.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.PreRead
public import proofs.«01_k».proof.Proof.Equation
public import Idealize.ShloMosaic.Adequacy
public import Idealize.ShloMosaic.Init
public import Idealize.ShloMosaic.Lib.Quiescent

@[expose] public section

set_option maxRecDepth 16384

noncomputable section

namespace Cert.Proof

open Idealize.ShloMosaic Idealize.ShloMosaic.TcCoe Idealize.SL.Sem

/-- The kernel runs, keeps its arguments, and leaves every semaphore at zero. -/
theorem frame_kernel : Cert.quiescent_Kernel (hKernel := Cert.Kernel.Gen.facts) := fun m ρ _ => Cert.Kernel.Gen.frame m ρ

/-- The idealized kernel likewise. -/
theorem frame_kernelIdeal : Cert.quiescent_KernelIdeal (hKernelIdeal := Cert.KernelIdeal.Gen.facts) :=
  fun m ρ _ => Cert.KernelIdeal.Gen.frame m ρ

/-- The idealized kernel likewise, under the precondition. -/
theorem frame_kernelIdeal_pre : Cert.quiescent_KernelIdeal_pre_symbols_and_tables (hKernelIdeal := Cert.KernelIdeal.Gen.facts)
    (hPre_symbols_and_tables := Cert.PreRead.facts) :=
  fun m ρ _ => Cert.KernelIdeal.Gen.frame m ρ

/-- The reference likewise: it has no semaphore. -/
theorem frame_referenceIdeal : Cert.quiescent_ReferenceIdeal (hReferenceIdeal := Cert.ReferenceIdeal.Gen.facts) :=
  fun m ρ _ => (θ_run Cert.ReferenceIdeal.defs _ _).mono
    (fun r h => ⟨fun c => (h c).2, Idealize.ShloMosaic.sem_eq_zero_of_no_sems (by decide) r.2⟩) (Cert.ReferenceIdeal.Value.run (F := Ideal) m ρ)

/-- The reference likewise, under the precondition. -/
theorem frame_referenceIdeal_pre : Cert.quiescent_ReferenceIdeal_pre_symbols_and_tables (hReferenceIdeal := Cert.ReferenceIdeal.Gen.facts)
    (hPre_symbols_and_tables := Cert.PreRead.facts) :=
  fun m ρ _ => frame_referenceIdeal m ρ trivial

/-- The mask is named: the kernel's constant is the mask's value at the words, and minus infinity in the idealized kernel. -/
theorem preserves : Cert.preserves_Kernel_KernelIdeal :=
  IdealRules.named_const.statement Cert.KernelIdeal.κ "mask" .f32 0xF149F2CA#32 ⊥ rfl

/-- An index of the result is a graph and an output coordinate. -/
theorem idx_eq (j : Cert.KernelIdeal.S64x128.Idx) : ∃ (b : Fin 64) (f : Fin 128), j = ix2 b f :=
  ⟨j 0, j 1, by funext a; match a with | ⟨0, _⟩ => rfl | ⟨1, _⟩ => rfl⟩

/-- From memories that agree on the arguments, the arguments being as the precondition says, the idealized kernel and the
    reference end with equal results. -/
theorem algebraic : Cert.algebraic_KernelIdeal_ReferenceIdeal_pre_symbols_and_tables (hKernelIdeal := Cert.KernelIdeal.Gen.facts)
    (hReferenceIdeal := Cert.ReferenceIdeal.Gen.facts) (hPre_symbols_and_tables := Cert.PreRead.facts) := by
  intro m ρ m' ρ' hpre hagree
  refine ⟨fun c => (Cert.KernelIdeal.Gen.dats m 0 c).arrAt 11 Cert.KernelIdeal.cfg0.N, Cert.KernelIdeal.Value.run_blocks (F := Ideal) m ρ,
    (θ_run Cert.ReferenceIdeal.defs _ _).mono (fun _ h c => ⟨(h c).1.trans ?_, (h c).2⟩) (Cert.ReferenceIdeal.Value.run (F := Ideal) m' ρ')⟩
  obtain ⟨hx, hem, how⟩ := Cert.PreRead.read (hPre := Cert.PreRead.facts) _ _ _ _ _ _ _ _ _ _ _ _ (hpre c)
  choose X hX using hx
  obtain ⟨e0, _, e2, e3, e4, e5, e6, e7, e8, e9, e10, e11⟩ := hagree c
  refine (Cert.ReferenceIdeal.Stages.res_eq m' c).trans ?_
  dsimp only
  rw [Cert.KernelIdeal.Run.final, e0, e2, e3, e4, e5, e6, e7, e8, e9, e10, e11]
  funext j
  obtain ⟨b, f, rfl⟩ := idx_eq j
  exact (Cert.Equation.body_eq_pool _ _ _ _ _ _ _ _ _ _ _ X hX hem how b f).symm

/-- Every claim of the certificate. -/
theorem claim : Cert.Claim :=
  ⟨Cert.Kernel.Gen.facts, Cert.KernelIdeal.Gen.facts, Cert.ReferenceIdeal.Gen.facts, Cert.PreRead.facts, frame_kernel, frame_kernelIdeal,
    frame_kernelIdeal_pre, frame_referenceIdeal, frame_referenceIdeal_pre, preserves, algebraic⟩

end Cert.Proof

end
